-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x3584 : Shape := ⟨3, ![8, 2048, 3584]⟩
abbrev S8x2048x28 : Shape := ⟨3, ![8, 2048, 28]⟩
abbrev S3584x2048 : Shape := ⟨2, ![3584, 2048]⟩
abbrev S28x16 : Shape := ⟨2, ![28, 16]⟩
abbrev S16384x3584 : Shape := ⟨2, ![16384, 3584]⟩
abbrev S16384x28 : Shape := ⟨2, ![16384, 28]⟩
abbrev S16384x2048 : Shape := ⟨2, ![16384, 2048]⟩
abbrev S16384x16 : Shape := ⟨2, ![16384, 16]⟩
abbrev S512x3584 : Shape := ⟨2, ![512, 3584]⟩
abbrev S512x28 : Shape := ⟨2, ![512, 28]⟩
abbrev S512x2048 : Shape := ⟨2, ![512, 2048]⟩
abbrev S512x16 : Shape := ⟨2, ![512, 16]⟩
abbrev S128x128 : Shape := ⟨2, ![128, 128]⟩
abbrev S8x16x128 : Shape := ⟨3, ![8, 16, 128]⟩
abbrev S1x1 : Shape := ⟨2, ![1, 1]⟩
abbrev S16x128 : Shape := ⟨2, ![16, 128]⟩
abbrev S1x16x128 : Shape := ⟨3, ![1, 16, 128]⟩
abbrev S512x1 : Shape := ⟨2, ![512, 1]⟩
abbrev S512x128 : Shape := ⟨2, ![512, 128]⟩
abbrev S3584x256 : Shape := ⟨2, ![3584, 256]⟩
abbrev S512x256 : Shape := ⟨2, ![512, 256]⟩
abbrev S512 : Shape := ⟨1, ![512]⟩
abbrev S1x255 : Shape := ⟨2, ![1, 255]⟩
abbrev S512x255 : Shape := ⟨2, ![512, 255]⟩

abbrev nBuf : Space → Nat
  | .hbm => 10
  | .vmem => 13
  | .smem => 2
  | _ => 0

abbrev bufTy : (tb : Table) → Fin (tcTables nBuf tb) → BufTy
  | .hbm, ⟨0, _⟩ => ⟨S8x2048x3584, .fp8e4m3⟩
  | .hbm, ⟨1, _⟩ => ⟨S8x2048x28, .f32⟩
  | .hbm, ⟨2, _⟩ => ⟨S3584x2048, .fp8e4m3⟩
  | .hbm, ⟨3, _⟩ => ⟨S28x16, .f32⟩
  | .hbm, ⟨4, _⟩ => ⟨S3584x2048, .fp8e4m3⟩
  | .hbm, ⟨5, _⟩ => ⟨S28x16, .f32⟩
  | .hbm, ⟨6, _⟩ => ⟨S16384x3584, .fp8e4m3⟩
  | .hbm, ⟨7, _⟩ => ⟨S16384x28, .f32⟩
  | .hbm, ⟨8, _⟩ => ⟨S16384x2048, .fp8e4m3⟩
  | .hbm, ⟨9, _⟩ => ⟨S16384x16, .f32⟩
  | .local _ .vmem, ⟨0, _⟩ => ⟨S512x3584, .fp8e4m3⟩
  | .local _ .vmem, ⟨1, _⟩ => ⟨S512x3584, .fp8e4m3⟩
  | .local _ .vmem, ⟨2, _⟩ => ⟨S512x28, .f32⟩
  | .local _ .vmem, ⟨3, _⟩ => ⟨S512x28, .f32⟩
  | .local _ .vmem, ⟨4, _⟩ => ⟨S3584x2048, .fp8e4m3⟩
  | .local _ .vmem, ⟨5, _⟩ => ⟨S3584x2048, .fp8e4m3⟩
  | .local _ .vmem, ⟨6, _⟩ => ⟨S512x2048, .fp8e4m3⟩
  | .local _ .vmem, ⟨7, _⟩ => ⟨S512x2048, .fp8e4m3⟩
  | .local _ .vmem, ⟨8, _⟩ => ⟨S512x16, .f32⟩
  | .local _ .vmem, ⟨9, _⟩ => ⟨S512x16, .f32⟩
  | .local _ .vmem, ⟨10, _⟩ => ⟨S512x3584, .bf16⟩
  | .local _ .vmem, ⟨11, _⟩ => ⟨S3584x2048, .bf16⟩
  | .local _ .vmem, ⟨12, _⟩ => ⟨S3584x2048, .bf16⟩
  | .local _ .smem, ⟨0, _⟩ => ⟨S28x16, .f32⟩
  | .local _ .smem, ⟨1, _⟩ => ⟨S28x16, .f32⟩
  | _, _ => ⟨S8x2048x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg3_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_539 : BitVec 32 := 0#32
  let c28_i32 : BitVec 32 := 28#32
  let v1211 : BitVec 32 := Scalar.addi c0_i32_539 c28_i32
  let c1_i32_540 : BitVec 32 := 1#32
  ⟨c0_i32_539, v1211, c1_i32_540⟩
def k0_mult1 (k0_t1 : Fin k0_t1_loop.trips) : BitVec 32 :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  v1212
def k0_off1 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  let v1213 : BitVec 32 := v1212
  let v1214 : Index := Scalar.indexCast v1213
  let c0_542 : Index := 0#32
  ![v1214.toNat, 0]
def k0_off2 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let v1218 : Index := Scalar.indexCast arg12
  let c0_543 : Index := 0#32
  ![v1218.toNat, 0]
def k0_off3 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  let v1213 : BitVec 32 := v1212
  let v1230 : Index := Scalar.indexCast v1213
  let c128_545 : Index := 128#32
  ![v1230.toNat, 128]
def k0_off4 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let v1234 : Index := Scalar.indexCast arg12
  let c1_546 : Index := 1#32
  ![v1234.toNat, 1]
def k0_off5 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  let v1213 : BitVec 32 := v1212
  let v1246 : Index := Scalar.indexCast v1213
  let c256_548 : Index := 256#32
  ![v1246.toNat, 256]
def k0_off6 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let v1250 : Index := Scalar.indexCast arg12
  let c2_549 : Index := 2#32
  ![v1250.toNat, 2]
def k0_off7 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  let v1213 : BitVec 32 := v1212
  let v1262 : Index := Scalar.indexCast v1213
  let c384_551 : Index := 384#32
  ![v1262.toNat, 384]
def k0_off8 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let v1266 : Index := Scalar.indexCast arg12
  let c3_552 : Index := 3#32
  ![v1266.toNat, 3]
def k0_off9 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  let v1213 : BitVec 32 := v1212
  let v1278 : Index := Scalar.indexCast v1213
  let c512_554 : Index := 512#32
  ![v1278.toNat, 512]
def k0_off10 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let v1282 : Index := Scalar.indexCast arg12
  let c4_555 : Index := 4#32
  ![v1282.toNat, 4]
def k0_off11 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  let v1213 : BitVec 32 := v1212
  let v1294 : Index := Scalar.indexCast v1213
  let c640_557 : Index := 640#32
  ![v1294.toNat, 640]
def k0_off12 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let v1298 : Index := Scalar.indexCast arg12
  let c5_558 : Index := 5#32
  ![v1298.toNat, 5]
def k0_off13 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  let v1213 : BitVec 32 := v1212
  let v1310 : Index := Scalar.indexCast v1213
  let c768_560 : Index := 768#32
  ![v1310.toNat, 768]
def k0_off14 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let v1314 : Index := Scalar.indexCast arg12
  let c6_561 : Index := 6#32
  ![v1314.toNat, 6]
def k0_off15 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  let v1213 : BitVec 32 := v1212
  let v1326 : Index := Scalar.indexCast v1213
  let c896_563 : Index := 896#32
  ![v1326.toNat, 896]
def k0_off16 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let v1330 : Index := Scalar.indexCast arg12
  let c7_564 : Index := 7#32
  ![v1330.toNat, 7]
def k0_off17 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  let v1213 : BitVec 32 := v1212
  let v1342 : Index := Scalar.indexCast v1213
  let c1024_566 : Index := 1024#32
  ![v1342.toNat, 1024]
def k0_off18 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let v1346 : Index := Scalar.indexCast arg12
  let c8_567 : Index := 8#32
  ![v1346.toNat, 8]
def k0_off19 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  let v1213 : BitVec 32 := v1212
  let v1358 : Index := Scalar.indexCast v1213
  let c1152_569 : Index := 1152#32
  ![v1358.toNat, 1152]
def k0_off20 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let v1362 : Index := Scalar.indexCast arg12
  let c9_570 : Index := 9#32
  ![v1362.toNat, 9]
def k0_off21 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  let v1213 : BitVec 32 := v1212
  let v1374 : Index := Scalar.indexCast v1213
  let c1280_572 : Index := 1280#32
  ![v1374.toNat, 1280]
def k0_off22 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let v1378 : Index := Scalar.indexCast arg12
  let c10_573 : Index := 10#32
  ![v1378.toNat, 10]
def k0_off23 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  let v1213 : BitVec 32 := v1212
  let v1390 : Index := Scalar.indexCast v1213
  let c1408_575 : Index := 1408#32
  ![v1390.toNat, 1408]
def k0_off24 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let v1394 : Index := Scalar.indexCast arg12
  let c11_576 : Index := 11#32
  ![v1394.toNat, 11]
def k0_off25 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  let v1213 : BitVec 32 := v1212
  let v1406 : Index := Scalar.indexCast v1213
  let c1536_578 : Index := 1536#32
  ![v1406.toNat, 1536]
def k0_off26 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let v1410 : Index := Scalar.indexCast arg12
  let c12_579 : Index := 12#32
  ![v1410.toNat, 12]
def k0_off27 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  let v1213 : BitVec 32 := v1212
  let v1422 : Index := Scalar.indexCast v1213
  let c1664_581 : Index := 1664#32
  ![v1422.toNat, 1664]
def k0_off28 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let v1426 : Index := Scalar.indexCast arg12
  let c13_582 : Index := 13#32
  ![v1426.toNat, 13]
def k0_off29 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  let v1213 : BitVec 32 := v1212
  let v1438 : Index := Scalar.indexCast v1213
  let c1792_584 : Index := 1792#32
  ![v1438.toNat, 1792]
def k0_off30 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let v1442 : Index := Scalar.indexCast arg12
  let c14_585 : Index := 14#32
  ![v1442.toNat, 14]
def k0_off31 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let c128_i32 : BitVec 32 := 128#32
  let v1212 : BitVec 32 := Scalar.muli arg12 c128_i32
  let v1213 : BitVec 32 := v1212
  let v1454 : Index := Scalar.indexCast v1213
  let c1920_587 : Index := 1920#32
  ![v1454.toNat, 1920]
def k0_off32 (k0_t1 : Fin k0_t1_loop.trips) : Fin 2 → Nat :=
  let c0_i32_539 : BitVec 32 := 0#32
  let c1_i32_540 : BitVec 32 := 1#32
  let arg12 : BitVec 32 := Scf.iv c0_i32_539 c1_i32_540 k0_t1
  let v1458 : Index := Scalar.indexCast arg12
  let c15_588 : Index := 15#32
  ![v1458.toNat, 15]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3584x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S28x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3584x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S28x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x2048x3584 : Shape := ⟨3, ![8, 2048, 3584]⟩
abbrev S8x2048x28 : Shape := ⟨3, ![8, 2048, 28]⟩
abbrev S3584x2048 : Shape := ⟨2, ![3584, 2048]⟩
abbrev S28x16 : Shape := ⟨2, ![28, 16]⟩
abbrev S16384x3584 : Shape := ⟨2, ![16384, 3584]⟩
abbrev S16384x28 : Shape := ⟨2, ![16384, 28]⟩
abbrev S16384x2048 : Shape := ⟨2, ![16384, 2048]⟩
abbrev S16384x16 : Shape := ⟨2, ![16384, 16]⟩
abbrev S16384x28x1 : Shape := ⟨3, ![16384, 28, 1]⟩
abbrev S16384x28x128 : Shape := ⟨3, ![16384, 28, 128]⟩
abbrev S28x1x16 : Shape := ⟨3, ![28, 1, 16]⟩
abbrev S28x128x16 : Shape := ⟨3, ![28, 128, 16]⟩
abbrev S3584x16 : Shape := ⟨2, ![3584, 16]⟩
abbrev S3584x16x1 : Shape := ⟨3, ![3584, 16, 1]⟩
abbrev S3584x16x128 : Shape := ⟨3, ![3584, 16, 128]⟩
abbrev S16384x16x128 : Shape := ⟨3, ![16384, 16, 128]⟩
abbrev S16384x16x1 : Shape := ⟨3, ![16384, 16, 1]⟩

abbrev nBuf : Space → Nat
  | .hbm => 10
  | .vmem => 8
  | .smem => 0
  | _ => 0

abbrev bufTy : (tb : Table) → Fin (tcTables nBuf tb) → BufTy
  | .hbm, ⟨0, _⟩ => ⟨S8x2048x3584, .fp8e4m3⟩
  | .hbm, ⟨1, _⟩ => ⟨S8x2048x28, .f32⟩
  | .hbm, ⟨2, _⟩ => ⟨S3584x2048, .fp8e4m3⟩
  | .hbm, ⟨3, _⟩ => ⟨S28x16, .f32⟩
  | .hbm, ⟨4, _⟩ => ⟨S3584x2048, .fp8e4m3⟩
  | .hbm, ⟨5, _⟩ => ⟨S28x16, .f32⟩
  | .hbm, ⟨6, _⟩ => ⟨S16384x3584, .fp8e4m3⟩
  | .hbm, ⟨7, _⟩ => ⟨S16384x28, .f32⟩
  | .hbm, ⟨8, _⟩ => ⟨S16384x2048, .fp8e4m3⟩
  | .hbm, ⟨9, _⟩ => ⟨S16384x16, .f32⟩
  | .local _ .vmem, ⟨0, _⟩ => ⟨S16384x3584, .fp8e4m3⟩
  | .local _ .vmem, ⟨1, _⟩ => ⟨S16384x28, .f32⟩
  | .local _ .vmem, ⟨2, _⟩ => ⟨S3584x2048, .fp8e4m3⟩
  | .local _ .vmem, ⟨3, _⟩ => ⟨S28x16, .f32⟩
  | .local _ .vmem, ⟨4, _⟩ => ⟨S3584x2048, .fp8e4m3⟩
  | .local _ .vmem, ⟨5, _⟩ => ⟨S28x16, .f32⟩
  | .local _ .vmem, ⟨6, _⟩ => ⟨S16384x2048, .fp8e4m3⟩
  | .local _ .vmem, ⟨7, _⟩ => ⟨S16384x16, .f32⟩
  | _, _ => ⟨S8x2048x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16384x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S28x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Quant.lean ====
/- The power-of-two quantiser over the extended reals. The kernel counts the powers of two that are at most `r`
   and builds the scale and its inverse from the count's bits; the reference takes `floor (log r / log 2) + 1`
   between two bounds and raises two to it. This file shows that the two agree at every `r`. -/
module

public import Idealize.ShloMosaic.PureOps.Ideal

@[expose] public section

noncomputable section

namespace Cert.Swiglu

open Idealize.ShloMosaic

/-- A float32 word with an empty sign, the field `c` and an empty fraction denotes `2 ^ (c - 127)`. -/
theorem ofBits_field (c : ℕ) (h1 : 1 ≤ c) (h2 : c ≤ 254) :
    Ideal.ofBits .f32 (BitVec.ofNat 32 c <<< 23) = (((2 : ℝ) ^ ((c : ℤ) - 127) : ℝ) : EReal) := by
  have key : ∀ d : Fin 255, ((BitVec.ofNat 32 d.val <<< 23).extractLsb' 31 1 == 1#1) = false
      ∧ ((BitVec.ofNat 32 d.val <<< 23).extractLsb' 23 8).toNat = d.val
      ∧ ((BitVec.ofNat 32 d.val <<< 23).extractLsb' 0 23).toNat = 0 := by decide
  obtain ⟨k1, k2, k3⟩ := key ⟨c, by omega⟩
  simp only at k1 k2 k3
  show Ideal.ieee 8 23 (BitVec.ofNat 32 c <<< 23) = _
  generalize BitVec.ofNat 32 c <<< 23 = x at k1 k2 k3 ⊢
  unfold Ideal.ieee
  simp only [Nat.reduceAdd, k1, k2, k3]
  rw [if_neg (by omega), if_neg (by omega)]
  congr 1
  have : ((c : ℤ) - (2 ^ (8 - 1) - 1) - (23 : ℕ)) = ((c : ℤ) - 127) - 23 := by norm_num
  rw [this, zpow_sub₀ (by norm_num : (2 : ℝ) ≠ 0) ((c : ℤ) - 127) 23]
  norm_num
  field_simp

/-- The power of two that the count compares with at place `c`. -/
def power (c : ℕ) : EReal := Ideal.ofBits .f32 (BitVec.ofNat 32 (min (c + 1) 253) <<< 23)

/-- The power at place `c`, as a real number. -/
theorem power_eq (c : ℕ) : power c = (((2 : ℝ) ^ (((min (c + 1) 253 : ℕ) : ℤ) - 127) : ℝ) : EReal) :=
  ofBits_field _ (by omega) (by omega)

/-- How many of the 255 powers are at most `r`. -/
def count (r : EReal) : ℕ := ∑ c : Fin 255, if r < power c.val then 0 else 1

/-- The count below the first power. -/
theorem count_low (r : EReal) (h : r < power 0) : count r = 0 := by
  refine Finset.sum_eq_zero fun c _ => if_pos (lt_of_lt_of_le h ?_)
  rw [power_eq, power_eq, EReal.coe_le_coe_iff]
  exact zpow_le_zpow_right₀ (by norm_num) (by omega)

/-- The count from the last power on. -/
theorem count_high (r : EReal) (h : (((2 : ℝ) ^ (126 : ℤ) : ℝ) : EReal) ≤ r) : count r = 255 := by
  have : ∀ c : Fin 255, (if r < power c.val then 0 else 1) = 1 := fun c => by
    refine if_neg (not_lt.mpr (le_trans ?_ h))
    rw [power_eq, EReal.coe_le_coe_iff]
    exact zpow_le_zpow_right₀ (by norm_num) (by omega)
  unfold count
  rw [Finset.sum_congr rfl fun c _ => this c]
  simp

/-- The count between two neighbouring powers. -/
theorem count_mid (x : ℝ) (k : ℕ) (h1 : 1 ≤ k) (h2 : k ≤ 252) (hl : (2 : ℝ) ^ ((k : ℤ) - 127) ≤ x)
    (hu : x < (2 : ℝ) ^ ((k : ℤ) - 126)) : count (x : EReal) = k := by
  have : ∀ c : Fin 255, (if (x : EReal) < power c.val then 0 else 1) = if c.val < k then 1 else 0 := fun c => by
    by_cases hc : c.val < k
    · rw [if_pos hc, if_neg]
      rw [not_lt, power_eq, EReal.coe_le_coe_iff]
      exact le_trans (zpow_le_zpow_right₀ (by norm_num) (by omega)) hl
    · rw [if_neg hc, if_pos]
      rw [power_eq, EReal.coe_lt_coe_iff]
      exact lt_of_lt_of_le hu (zpow_le_zpow_right₀ (by norm_num) (by omega))
  unfold count
  rw [Finset.sum_congr rfl fun c _ => this c, Finset.sum_boole]
  have e : (Finset.univ.filter fun c : Fin 255 => c.val < k) = Finset.Iio (⟨k, by omega⟩ : Fin 255) := by
    ext c; simp [Fin.lt_def]
  rw [e, Fin.card_Iio]; simp

/-- The kernel's exponent word, from the word of the count. -/
def expWord (f : BitVec 32) : BitVec 32 := if f = 0#32 ∨ f = 255#32 then 0#32 else f - 126#32

/-- The kernel's inverse scale. -/
def invOf (f : BitVec 32) : EReal := Ideal.ofBits .f32 ((127#32 - expWord f) <<< 23)

/-- The kernel's scale. -/
def scaleOf (f : BitVec 32) : EReal := Ideal.ofBits .f32 ((127#32 + expWord f) <<< 23)

/-- The reference's exponent. -/
def expo (r : EReal) : EReal :=
  if Ideal.ofBits .f32 0x00800000#32 ≤ r ∧ r < Ideal.ofBits .f32 0x7E800000#32 then
    Ideal.liftRound Int.floor (Ideal.div (Ideal.log r) (Ideal.log (Ideal.ofBits .f32 0x40000000#32)))
      + Ideal.ofBits .f32 0x3F800000#32
  else Ideal.ofBits .f32 0x00000000#32

theorem ofBits_lo : Ideal.ofBits .f32 0x00800000#32 = (((2 : ℝ) ^ (-126 : ℤ) : ℝ) : EReal) :=
  ofBits_field 1 (by omega) (by omega)
theorem ofBits_hi : Ideal.ofBits .f32 0x7E800000#32 = (((2 : ℝ) ^ (126 : ℤ) : ℝ) : EReal) :=
  ofBits_field 253 (by omega) (by omega)
theorem ofBits_two : Ideal.ofBits .f32 0x40000000#32 = ((2 : ℝ) : EReal) :=
  (ofBits_field 128 (by omega) (by omega)).trans (by norm_num)
theorem ofBits_one : Ideal.ofBits .f32 0x3F800000#32 = ((1 : ℝ) : EReal) :=
  (ofBits_field 127 (by omega) (by omega)).trans (by norm_num)
theorem ofBits_zero : Ideal.ofBits .f32 0x00000000#32 = ((0 : ℝ) : EReal) := by
  simp [Ideal.ofBits, Ideal.ieee]

/-- The scale and its inverse of an exponent that the kernel sets to zero. -/
theorem scales_zero (f : BitVec 32) (h : f = 0#32 ∨ f = 255#32) : invOf f = 1 ∧ scaleOf f = 1 := by
  unfold invOf scaleOf expWord
  rw [if_pos h]
  exact ⟨ofBits_one, ofBits_one⟩

/-- The scale and its inverse of a count strictly between its ends. -/
theorem scales_mid (k : ℕ) (h1 : 1 ≤ k) (h2 : k ≤ 252) :
    invOf (BitVec.ofNat 32 k) = (((2 : ℝ) ^ (126 - (k : ℤ)) : ℝ) : EReal)
      ∧ scaleOf (BitVec.ofNat 32 k) = (((2 : ℝ) ^ ((k : ℤ) - 126) : ℝ) : EReal) := by
  have key : ∀ d : Fin 253, d.val ≠ 0 → (127#32 - expWord (BitVec.ofNat 32 d.val)) = BitVec.ofNat 32 (253 - d.val)
      ∧ (127#32 + expWord (BitVec.ofNat 32 d.val)) = BitVec.ofNat 32 (d.val + 1) := by
    unfold expWord; decide
  obtain ⟨e1, e2⟩ := key ⟨k, by omega⟩ (by simp; omega)
  simp only at e1 e2
  unfold invOf scaleOf
  rw [e1, e2, ofBits_field _ (by omega) (by omega), ofBits_field _ (by omega) (by omega)]
  constructor
  · rw [Nat.cast_sub (by omega)]; congr 2; push_cast; ring
  · congr 2; push_cast; ring

/-- THE QUANTISER: at every extended real the scale built from the count is two to the reference's exponent, and the
    inverse is two to its opposite. -/
theorem quantiser (r : EReal) : invOf (BitVec.ofNat 32 (count r)) = Ideal.exp2 (Ideal.ofBits .f32 0x00000000#32 - expo r)
    ∧ scaleOf (BitVec.ofNat 32 (count r)) = Ideal.exp2 (expo r) := by
  have z : ∀ x : EReal, x = 0 → Ideal.exp2 (Ideal.ofBits .f32 0x00000000#32 - x) = 1 ∧ Ideal.exp2 x = 1 := by
    rintro x rfl
    rw [ofBits_zero]
    constructor
    · rw [EReal.coe_zero, sub_zero, ← EReal.coe_zero, Ideal.exp2_coe]; simp
    · rw [← EReal.coe_zero, Ideal.exp2_coe]; simp
  by_cases hlo : r < power 0
  · rw [count_low r hlo]
    obtain ⟨s1, s2⟩ := scales_zero (BitVec.ofNat 32 0) (Or.inl rfl)
    have : expo r = 0 := by
      unfold expo
      rw [if_neg, ofBits_zero, EReal.coe_zero]
      rintro ⟨h, -⟩
      exact absurd hlo (not_lt.mpr (by rw [power_eq]; rw [ofBits_lo] at h; exact h))
    rw [s1, s2]; exact ⟨(z _ this).1.symm, (z _ this).2.symm⟩
  by_cases hhi : (((2 : ℝ) ^ (126 : ℤ) : ℝ) : EReal) ≤ r
  · rw [count_high r hhi]
    obtain ⟨s1, s2⟩ := scales_zero (BitVec.ofNat 32 255) (Or.inr rfl)
    have : expo r = 0 := by
      unfold expo
      rw [if_neg, ofBits_zero, EReal.coe_zero]
      rintro ⟨-, h⟩
      rw [ofBits_hi] at h
      exact absurd hhi (not_le.mpr h)
    rw [s1, s2]; exact ⟨(z _ this).1.symm, (z _ this).2.symm⟩
  rw [not_lt, power_eq] at hlo
  rw [not_le] at hhi
  have hb : r ≠ ⊥ := fun h => by rw [h, le_bot_iff] at hlo; exact absurd hlo (EReal.coe_ne_bot _)
  have ht : r ≠ ⊤ := fun h => by rw [h] at hhi; exact absurd hhi (not_lt.mpr le_top)
  lift r to ℝ using ⟨ht, hb⟩
  have hlo' := hlo
  have hhi' := hhi
  rw [EReal.coe_le_coe_iff] at hlo
  rw [EReal.coe_lt_coe_iff] at hhi
  have hlo : (2 : ℝ) ^ (-126 : ℤ) ≤ r := hlo
  have hr : 0 < r := lt_of_lt_of_le (by positivity) hlo
  obtain ⟨n, hl, hu⟩ := exists_mem_Ico_zpow hr (by norm_num : (1 : ℝ) < 2)
  have n1 : -126 < n + 1 := (zpow_lt_zpow_iff_right₀ (by norm_num : (1 : ℝ) < 2)).mp (lt_of_le_of_lt hlo hu)
  have n2 : n < 126 := (zpow_lt_zpow_iff_right₀ (by norm_num : (1 : ℝ) < 2)).mp (lt_of_le_of_lt hl hhi)
  obtain ⟨k, hk⟩ : ∃ k : ℕ, (k : ℤ) = n + 127 := ⟨(n + 127).toNat, by omega⟩
  have hc : count (r : EReal) = k := count_mid r k (by omega) (by omega)
    (by rw [hk, show n + 127 - 127 = n by omega]; exact hl) (by rw [hk, show n + 127 - 126 = n + 1 by omega]; exact hu)
  have he : expo (r : EReal) = (((n + 1 : ℤ) : ℝ) : EReal) := by
    unfold expo
    rw [if_pos ⟨by rw [ofBits_lo]; exact hlo', by rw [ofBits_hi]; exact hhi'⟩, ofBits_two, ofBits_one]
    have l1 : Ideal.log (r : EReal) = (Real.log r : EReal) := if_neg (not_le.mpr hr)
    have l2 : Ideal.log ((2 : ℝ) : EReal) = (Real.log 2 : EReal) := if_neg (by norm_num)
    have l0 : (Real.log 2 : EReal) ≠ 0 := by
      have := Real.log_pos (by norm_num : (1 : ℝ) < 2)
      exact_mod_cast this.ne'
    rw [l1, l2, Ideal.div, if_neg l0, ← EReal.coe_inv, ← EReal.coe_mul, ← div_eq_mul_inv]
    show (((⌊Real.log r / Real.log 2⌋ : ℤ) : ℝ) : EReal) + _ = _
    have f : ⌊Real.log r / Real.log 2⌋ = n := by
      have l2 : 0 < Real.log 2 := Real.log_pos (by norm_num)
      rw [Int.floor_eq_iff, le_div_iff₀ l2, div_lt_iff₀ l2, ← Real.log_zpow,
        show ((n : ℝ) + 1) = ((n + 1 : ℤ) : ℝ) by push_cast; rfl, ← Real.log_zpow]
      exact ⟨Real.log_le_log (by positivity) hl, Real.log_lt_log hr hu⟩
    rw [f]; push_cast; rfl
  obtain ⟨s1, s2⟩ := scales_mid k (by omega) (by omega)
  rw [hc, he, s1, s2, ofBits_zero, ← EReal.coe_sub, Ideal.exp2_coe, Ideal.exp2_coe]
  have p : ∀ x : ℤ, Real.rpow 2 (x : ℝ) = (2 : ℝ) ^ x := fun x => Real.rpow_intCast 2 x
  refine ⟨?_, ?_⟩
  · rw [show (0 : ℝ) - ((n + 1 : ℤ) : ℝ) = ((-(n + 1) : ℤ) : ℝ) by push_cast; ring, p, show 126 - (k : ℤ) = -(n + 1) by omega]
  · rw [p, show (k : ℤ) - 126 = n + 1 by omega]

/-! ### One group of 128 numbers -/

/-- The largest magnitude of the group over 448. -/
def ratio (v : Fin 128 → EReal) : EReal :=
  Finset.fold max (Ideal.ofBits .f32 0xFF800000#32) (fun l => FloatOps.absf (F := Ideal) (φ := .f32) (v l)) Finset.univ
    * Ideal.ofBits .f32 0x3B124925#32

/-- A number within ±448. -/
def clip (y : EReal) : EReal := min (Ideal.ofBits .f32 0x43E00000#32) (max (Ideal.ofBits .f32 0xC3E00000#32) y)

/-- The code at place `l` of the group. -/
def code (v : Fin 128 → EReal) (l : Fin 128) : EReal :=
  clip (v l * Ideal.exp2 (Ideal.ofBits .f32 0x00000000#32 - expo (ratio v)))

/-- The scale of the group. -/
def scale (v : Fin 128 → EReal) : EReal := Ideal.exp2 (expo (ratio v))

/-- The gated product of two dots. -/
def gated (g u : EReal) : EReal := g * Ideal.logistic g * u

end Cert.Swiglu
-- ==== Proof.Tile.lean ====
/- One group of 128 columns of a row block: the kernel's quantiser of it, written once, and read at an index. -/
module

public import proofs.«01_k».proof.Proof.Quant
public import proofs.«01_k».proof.Proof.Gen.KernelIdeal.Skeleton
public import Idealize.ShloMosaic.Lib.Pointwise
public import Idealize.ShloMosaic.Lib.WordSum

@[expose] public section

set_option synthInstance.maxSize 4096

noncomputable section

namespace Cert.Swiglu

open Idealize.ShloMosaic Idealize.ShloMosaic.Pointwise
open Cert.KernelIdeal Cert.KernelIdeal.Gen

section Printed

variable {F : FTy → Type} [FloatOps F]

/-- The group maximum of each row, divided by 448. -/
def ratioV (s : FVec F S512x128 .f32) : FVec F S512x1 .f32 :=
  mulf (shapeCast S512x1 (multiReduction .maximumf [1] S512 (absf s) 0xFF800000#32 reduces_S512x128_S512 (.inl rfl) rfl) shapeCasts_S512_S512x1)
    (broadcast S512x1 (Scalar.ofBits .f32 0x3B124925#32))

/-- The 255 powers of two that the count compares with. -/
def powersV : FVec F S1x255 .f32 :=
  bitcastToFloat .f32 (shli (minsi (addi (iota .tc S1x255 32 [1] iota_S1x255_d1_w32) (broadcast S1x255 1#32)) (broadcast S1x255 253#32))
    (broadcast S1x255 23#32))

/-- The count of each row. -/
def fieldV (s : FVec F S512x128 .f32) : IVec S512x1 32 :=
  shapeCast S512x1 (multiReductionI .add [1] S512
    (select (cmpf .olt (broadcastTo S512x255 (ratioV s) broadcasts_S512x1_S512x255) (broadcastTo S512x255 powersV broadcasts_S1x255_S512x255))
      (broadcast S512x255 0#32) (broadcast S512x255 1#32)) 0#32 reduces_S512x255_S512 rfl) shapeCasts_S512_S512x1

/-- The exponent word of each row. -/
def expV (s : FVec F S512x128 .f32) : IVec S512x1 32 :=
  select (ori (cmpi .eq (fieldV s) (broadcast S512x1 0#32)) (cmpi .eq (fieldV s) (broadcast S512x1 255#32)))
    (broadcast S512x1 0#32) (subi (fieldV s) (broadcast S512x1 126#32))

/-- The scale of each row. -/
def scalesV (s : FVec F S512x128 .f32) : FVec F S512x1 .f32 :=
  bitcastToFloat .f32 (shli (addi (broadcast S512x1 127#32) (expV s)) (broadcast S512x1 23#32))

/-- The codes of the group. -/
def codesV (s : FVec F S512x128 .f32) : FVec F S512x128 .fp8e4m3 :=
  truncf .fp8e4m3 (minimumf (broadcast S512x128 (Scalar.ofBits .f32 0x43E00000#32)) (maximumf (broadcast S512x128 (Scalar.ofBits .f32 0xC3E00000#32))
    (mulf s (broadcastTo S512x128 (bitcastToFloat .f32 (shli (subi (broadcast S512x1 127#32) (expV s)) (broadcast S512x1 23#32)))
      broadcasts_S512x1_S512x128)))) bitsLt_fp8e4m3_f32

/-- The left group of a tile of 256 columns. -/
def leftV (h : FVec F S512x256 .f32) : FVec F S512x128 .f32 := extractStridedSlice S512x128 ![0, 0] h slices_S512x256_o0_0_S512x128
/-- The right group of a tile of 256 columns. -/
def rightV (h : FVec F S512x256 .f32) : FVec F S512x128 .f32 := extractStridedSlice S512x128 ![0, 128] h slices_S512x256_o0_128_S512x128

end Printed

/-- Row `i` of a group. -/
abbrev rowOf (s : FVec Ideal S512x128 .f32) (i : Fin 512) : Fin 128 → EReal := fun l => s (ix2 i l)

/-- The ratio, read at a row. -/
theorem ratioV_at (s : FVec Ideal S512x128 .f32) (i : Fin 512) : ratioV s (ix2 i (0 : Fin 1)) = ratio (rowOf s i) := by
  pointwise [ratioV]
  rfl

/-- The vector unit's left shift by 23. -/
theorem shli_23 (x : BitVec 32) : IntOp.shli ArithUnit.vector x 23#32 = x <<< 23 := rfl

/-- The powers, read at a place. -/
theorem powersV_at (l : Fin 255) : powersV (F := Ideal) (ix2 (0 : Fin 1) l) = power l.val := by
  pointwise [powersV]
  have key : ∀ d : Fin 255, IntOp.minsi (IntOp.addi (BitVec.ofNat 32 d.val) 1#32) 253#32 = BitVec.ofNat 32 (min (d.val + 1) 253) := by decide
  rw [shli_23, key]; rfl

/-- A sum of words 0 and 1 is the word of the count. -/
theorem fold_words {ι : Type} [DecidableEq ι] (p : ι → Prop) [DecidablePred p] (S : Finset ι) :
    Finset.fold IntOp.addi (0#32) (fun x => if p x then 0#32 else 1#32) S = BitVec.ofNat 32 (∑ x ∈ S, if p x then 0 else 1) := by
  induction S using Finset.induction_on with
  | empty => rfl
  | insert a S h ih =>
    rw [Finset.fold_insert h, Finset.sum_insert h, ih, BitVec.ofNat_add]
    split <;> rfl

/-- The count, read at a row. -/
theorem fieldV_at (s : FVec Ideal S512x128 .f32) (i : Fin 512) :
    fieldV s (ix2 i (0 : Fin 1)) = BitVec.ofNat 32 (count (ratio (rowOf s i))) := by
  pointwise [fieldV]
  simp only [ratioV_at, powersV_at]
  exact fold_words (fun l : Fin 255 => ratio (rowOf s i) < power l.val) Finset.univ

/-- The exponent word, read at a row. -/
theorem expV_at (s : FVec Ideal S512x128 .f32) (i : Fin 512) :
    expV s (ix2 i (0 : Fin 1)) = expWord (BitVec.ofNat 32 (count (ratio (rowOf s i)))) := by
  pointwise [expV]
  rw [fieldV_at]
  generalize BitVec.ofNat 32 (count (ratio (rowOf s i))) = f
  unfold expWord
  by_cases h0 : f = 0#32
  · subst h0; rfl
  by_cases h1 : f = 255#32
  · subst h1; rfl
  rw [if_neg (by tauto)]
  have e0 : IntOp.cmpi CmpIPredicate.eq f 0#32 = 0#1 := by
    show BitVec.ofBool (f == 0#32) = 0#1
    rw [beq_eq_false_iff_ne.mpr h0]; rfl
  have e1 : IntOp.cmpi CmpIPredicate.eq f 255#32 = 0#1 := by
    show BitVec.ofBool (f == 255#32) = 0#1
    rw [beq_eq_false_iff_ne.mpr h1]; rfl
  rw [e0, e1]; rfl

/-- The scale, read at a row. -/
theorem scalesV_at (s : FVec Ideal S512x128 .f32) (i : Fin 512) : scalesV s (ix2 i (0 : Fin 1)) = scale (rowOf s i) := by
  pointwise [scalesV]
  rw [expV_at, shli_23]
  exact (quantiser _).2

/-- The codes, read at an index. -/
theorem codesV_at (s : FVec Ideal S512x128 .f32) (i : Fin 512) (l : Fin 128) : codesV s (ix2 i l) = code (rowOf s i) l := by
  pointwise [codesV]
  rw [expV_at, shli_23]
  exact congrArg (fun y => clip (s (ix2 i l) * y)) (quantiser _).1

/-- A tile of 256 columns, read at an index. -/
theorem tile_at (x : Vec Ideal S512x3584 .bf16) (g u : Vec Ideal S3584x256 .bf16) (i : Fin 512) (l : Fin 256) :
    k0_pay79 (F := Ideal) x g x u (ix2 i l)
      = gated (∑ k : Fin 3584, x (ix2 i k) * g (ix2 k l)) (∑ k : Fin 3584, x (ix2 i k) * u (ix2 k l)) := by
  pointwise [k0_pay79]
  rfl

/-- The left group, read at an index. -/
theorem leftV_at (h : FVec Ideal S512x256 .f32) (i : Fin 512) (l : Fin 128) : leftV h (ix2 i l) = h (ix2 i ⟨l.val, by omega⟩) := by
  pointwise [leftV]

/-- The right group, read at an index. -/
theorem rightV_at (h : FVec Ideal S512x256 .f32) (i : Fin 512) (l : Fin 128) : rightV h (ix2 i l) = h (ix2 i ⟨128 + l.val, by omega⟩) := by
  pointwise [rightV]

end Cert.Swiglu
-- ==== Proof.Point.lean ====
/- What one grid point writes, from the dequantised rows and the two dequantised weight arrays: the sixteen groups of
   codes and the sixteen columns of scales, as one function of the index. -/
module

public import proofs.«01_k».proof.Proof.Tile
public import Idealize.ShloMosaic.Lib.Pipeline.FrameBody
public import Idealize.ShloMosaic.Lib.Pipeline.Value

@[expose] public section

set_option synthInstance.maxSize 4096

noncomputable section

namespace Cert.Swiglu

open Idealize.ShloMosaic Idealize.ShloMosaic.Pointwise
open Cert.KernelIdeal Cert.KernelIdeal.Gen

section Printed

variable {F : FTy → Type} [FloatOps F]

/-- Column tile `T` lies within the weight array. -/
theorem inb_tile (T : Fin 8) (a : Fin 2) : (![0, 256 * T.val] : Fin 2 → ℕ) a + S3584x256.size a ≤ S3584x2048.size a := by
  fin_cases a <;> simp [S3584x256, S3584x2048] <;> omega

/-- The left group of column tile `T` lies within its output block. -/
theorem inb_codes0 (T : Fin 8) (a : Fin 2) : (![0, 256 * T.val] : Fin 2 → ℕ) a + S512x128.size a ≤ S512x2048.size a := by
  fin_cases a <;> simp [S512x128, S512x2048] <;> omega

/-- The right group of column tile `T` lies within its output block. -/
theorem inb_codes1 (T : Fin 8) (a : Fin 2) : (![0, 256 * T.val + 128] : Fin 2 → ℕ) a + S512x128.size a ≤ S512x2048.size a := by
  fin_cases a <;> simp [S512x128, S512x2048] <;> omega

/-- The left group's scale of column tile `T` lies within its output block. -/
theorem inb_scales0 (T : Fin 8) (a : Fin 2) : (![0, 2 * T.val] : Fin 2 → ℕ) a + S512x1.size a ≤ S512x16.size a := by
  fin_cases a <;> simp [S512x1, S512x16] <;> omega

/-- The right group's scale of column tile `T` lies within its output block. -/
theorem inb_scales1 (T : Fin 8) (a : Fin 2) : (![0, 2 * T.val + 1] : Fin 2 → ℕ) a + S512x1.size a ≤ S512x16.size a := by
  fin_cases a <;> simp [S512x1, S512x16] <;> omega

/-- The store of the left group's codes of column tile `T`. -/
abbrev leftCodes (x : Vec F S512x3584 .bf16) (g u : Fin 8 → Vec F S3584x256 .bf16) (T : Fin 8) :
    View.Piece (Elt F) S512x2048 .fp8e4m3 :=
  ⟨Rect.unit (s := S512x2048) ![0, 256 * T.val] S512x128.size (inb_codes0 T),
    codesV (leftV (k0_pay79 x (g T) x (u T)))⟩

/-- The store of the right group's codes of column tile `T`. -/
abbrev rightCodes (x : Vec F S512x3584 .bf16) (g u : Fin 8 → Vec F S3584x256 .bf16) (T : Fin 8) :
    View.Piece (Elt F) S512x2048 .fp8e4m3 :=
  ⟨Rect.unit (s := S512x2048) ![0, 256 * T.val + 128] S512x128.size (inb_codes1 T),
    codesV (rightV (k0_pay79 x (g T) x (u T)))⟩

/-- The store of the left group's scales of column tile `T`. -/
abbrev leftScales (x : Vec F S512x3584 .bf16) (g u : Fin 8 → Vec F S3584x256 .bf16) (T : Fin 8) :
    View.Piece (Elt F) S512x16 .f32 :=
  ⟨Rect.unit (s := S512x16) ![0, 2 * T.val] S512x1.size (inb_scales0 T),
    scalesV (leftV (k0_pay79 x (g T) x (u T)))⟩

/-- The store of the right group's scales of column tile `T`. -/
abbrev rightScales (x : Vec F S512x3584 .bf16) (g u : Fin 8 → Vec F S3584x256 .bf16) (T : Fin 8) :
    View.Piece (Elt F) S512x16 .f32 :=
  ⟨Rect.unit (s := S512x16) ![0, 2 * T.val + 1] S512x1.size (inb_scales1 T),
    scalesV (rightV (k0_pay79 x (g T) x (u T)))⟩

/-- The sixteen stores of codes, last first. -/
abbrev codesPieces (x : Vec F S512x3584 .bf16) (g u : Fin 8 → Vec F S3584x256 .bf16) : List (View.Piece (Elt F) S512x2048 .fp8e4m3) :=
  ([7, 6, 5, 4, 3, 2, 1, 0] : List (Fin 8)).flatMap fun T => [rightCodes x g u T, leftCodes x g u T]

/-- The sixteen stores of scales, last first. -/
abbrev scalesPieces (x : Vec F S512x3584 .bf16) (g u : Fin 8 → Vec F S3584x256 .bf16) : List (View.Piece (Elt F) S512x16 .f32) :=
  ([7, 6, 5, 4, 3, 2, 1, 0] : List (Fin 8)).flatMap fun T => [rightScales x g u T, leftScales x g u T]

end Printed

/-- The gated product at row `i` and column `j`. -/
def hAt (x : Vec Ideal S512x3584 .bf16) (g u : Vec Ideal S3584x2048 .bf16) (i : Fin 512) (j : Fin 2048) : EReal :=
  gated (∑ k : Fin 3584, x (ix2 i k) * g (ix2 k j)) (∑ k : Fin 3584, x (ix2 i k) * u (ix2 k j))

/-- Group `q` of row `i`. -/
def groupAt (x : Vec Ideal S512x3584 .bf16) (g u : Vec Ideal S3584x2048 .bf16) (i : Fin 512) (q : Fin 16) : Fin 128 → EReal :=
  fun l => hAt x g u i ⟨128 * q.val + l.val, by omega⟩

/-- The codes of a row block. -/
def codesPt (x : Vec Ideal S512x3584 .bf16) (g u : Vec Ideal S3584x2048 .bf16) : Vec Ideal S512x2048 .fp8e4m3 := fun y =>
  code (groupAt x g u ⟨(y 0).val, (y 0).isLt⟩ ⟨(y 1).val / 128, by have : (y 1).val < 2048 := (y 1).isLt; omega⟩) ⟨(y 1).val % 128, by omega⟩

/-- The scales of a row block. -/
def scalesPt (x : Vec Ideal S512x3584 .bf16) (g u : Vec Ideal S3584x2048 .bf16) : Vec Ideal S512x16 .f32 := fun y =>
  scale (groupAt x g u ⟨(y 0).val, (y 0).isLt⟩ ⟨(y 1).val, (y 1).isLt⟩)

/-- Column tile `T` of a weight array. -/
def IsTile (g : Vec Ideal S3584x2048 .bf16) (t : Fin 8 → Vec Ideal S3584x256 .bf16) : Prop :=
  ∀ (T : Fin 8) (k : Fin 3584) (l : Fin 256), t T (ix2 k l) = g (ix2 k ⟨256 * T.val + l.val, by omega⟩)

variable {x : Vec Ideal S512x3584 .bf16} {g u : Vec Ideal S3584x2048 .bf16} {gt ut : Fin 8 → Vec Ideal S3584x256 .bf16}

/-- A row of a tile's left group is the group of the whole row. -/
theorem left_row (hg : IsTile g gt) (hu : IsTile u ut) (T : Fin 8) (i : Fin 512) :
    rowOf (leftV (k0_pay79 x (gt T) x (ut T))) i = groupAt x g u i ⟨2 * T.val, by omega⟩ := by
  funext l
  show leftV (k0_pay79 x (gt T) x (ut T)) (ix2 i l) = _
  rw [leftV_at, tile_at]
  unfold groupAt hAt
  have e : (⟨256 * T.val + (⟨l.val, by omega⟩ : Fin 256).val, by omega⟩ : Fin 2048) = ⟨128 * (2 * T.val) + l.val, by omega⟩ :=
    Fin.ext (by simp only; omega)
  simp only [hg T, hu T, e]

/-- A row of a tile's right group is the next group of the whole row. -/
theorem right_row (hg : IsTile g gt) (hu : IsTile u ut) (T : Fin 8) (i : Fin 512) :
    rowOf (rightV (k0_pay79 x (gt T) x (ut T))) i = groupAt x g u i ⟨2 * T.val + 1, by omega⟩ := by
  funext l
  show rightV (k0_pay79 x (gt T) x (ut T)) (ix2 i l) = _
  rw [rightV_at, tile_at]
  unfold groupAt hAt
  have e : (⟨256 * T.val + (⟨128 + l.val, by omega⟩ : Fin 256).val, by omega⟩ : Fin 2048) = ⟨128 * (2 * T.val + 1) + l.val, by omega⟩ :=
    Fin.ext (by simp only; omega)
  simp only [hg T, hu T, e]

/-- An index of a column block of 128 from its row and its column. -/
theorem codesPt_at (i : Fin 512) (q : Fin 16) (l : Fin 128) (y : S512x2048.Idx) (h0 : (y 0).val = i.val) (h1 : (y 1).val = 128 * q.val + l.val) :
    codesPt x g u y = code (groupAt x g u i q) l := by
  unfold codesPt
  congr 1
  · congr 1
    · exact Fin.ext h0
    · exact Fin.ext (by simp only [h1]; omega)
  · exact Fin.ext (by simp only [h1]; omega)

/-- An index of the scales from its row and its column. -/
theorem scalesPt_at (i : Fin 512) (q : Fin 16) (y : S512x16.Idx) (h0 : (y 0).val = i.val) (h1 : (y 1).val = q.val) :
    scalesPt x g u y = scale (groupAt x g u i q) := by
  unfold scalesPt
  congr 1
  congr 1
  · exact Fin.ext h0
  · exact Fin.ext h1

/-- THE CODES: the sixteen stores leave the codes of the row block. -/
theorem canon_codes (hg : IsTile g gt) (hu : IsTile u ut) : View.canon (codesPieces x gt ut) = codesPt x g u := by
  funext y
  have y0 : (y 0).val < 512 := (y 0).isLt
  have y1 : (y 1).val < 2048 := (y 1).isLt
  refine View.canon_apply_of_pieces (codesPt x g u) _ ?_ y ?_
  · intro p hp
    obtain ⟨T, -, hT⟩ := List.mem_flatMap.mp hp
    rcases List.mem_cons.mp hT with rfl | hT
    · intro z
      obtain ⟨i, l, rfl⟩ : ∃ (i : Fin 512) (l : Fin 128), z = ix2 i l := ⟨z 0, z 1, eq_ix2 z⟩
      rw [codesPt_at i ⟨2 * T.val + 1, by omega⟩ l _ (by simp) (by simp; omega), ← right_row hg hu T i]
      exact codesV_at _ i l
    · obtain rfl := List.mem_singleton.mp hT
      intro z
      obtain ⟨i, l, rfl⟩ : ∃ (i : Fin 512) (l : Fin 128), z = ix2 i l := ⟨z 0, z 1, eq_ix2 z⟩
      rw [codesPt_at i ⟨2 * T.val, by omega⟩ l _ (by simp) (by simp; omega), ← left_row hg hu T i]
      exact codesV_at _ i l
  · obtain ⟨T, hT⟩ : ∃ T : Fin 8, T.val = (y 1).val / 256 := ⟨⟨(y 1).val / 256, by omega⟩, rfl⟩
    have hm : T ∈ ([7, 6, 5, 4, 3, 2, 1, 0] : List (Fin 8)) := (by decide : ∀ T : Fin 8, T ∈ ([7, 6, 5, 4, 3, 2, 1, 0] : List (Fin 8))) T
    by_cases hs : (y 1).val % 256 < 128
    · refine ⟨leftCodes x gt ut T, List.mem_flatMap.mpr ⟨T, hm, by simp⟩, ?_⟩
      refine (Rect.mem_set_unit (inb := inb_codes0 T)).mpr fun a => ?_
      match a with
      | ⟨0, _⟩ => exact ⟨Nat.zero_le _, by show (y 0).val < 0 + 512; omega⟩
      | ⟨1, _⟩ => exact ⟨by show 256 * T.val ≤ (y 1).val; omega, by show (y 1).val < 256 * T.val + 128; omega⟩
    · refine ⟨rightCodes x gt ut T, List.mem_flatMap.mpr ⟨T, hm, by simp⟩, ?_⟩
      refine (Rect.mem_set_unit (inb := inb_codes1 T)).mpr fun a => ?_
      match a with
      | ⟨0, _⟩ => exact ⟨Nat.zero_le _, by show (y 0).val < 0 + 512; omega⟩
      | ⟨1, _⟩ => exact ⟨by show 256 * T.val + 128 ≤ (y 1).val; omega, by show (y 1).val < 256 * T.val + 128 + 128; omega⟩

/-- THE SCALES: the sixteen stores leave the scales of the row block. -/
theorem canon_scales (hg : IsTile g gt) (hu : IsTile u ut) : View.canon (scalesPieces x gt ut) = scalesPt x g u := by
  funext y
  have y0 : (y 0).val < 512 := (y 0).isLt
  have y1 : (y 1).val < 16 := (y 1).isLt
  refine View.canon_apply_of_pieces (scalesPt x g u) _ ?_ y ?_
  · intro p hp
    obtain ⟨T, -, hT⟩ := List.mem_flatMap.mp hp
    rcases List.mem_cons.mp hT with rfl | hT
    · intro z
      obtain ⟨i, rfl⟩ : ∃ (i : Fin 512), z = ix2 i (0 : Fin 1) := ⟨z 0, by rw [eq_ix2 z]; congr 1; exact Subsingleton.elim (α := Fin 1) _ _⟩
      rw [scalesPt_at i ⟨2 * T.val + 1, by omega⟩ _ (by simp) (by simp), ← right_row hg hu T i]
      exact scalesV_at _ i
    · obtain rfl := List.mem_singleton.mp hT
      intro z
      obtain ⟨i, rfl⟩ : ∃ (i : Fin 512), z = ix2 i (0 : Fin 1) := ⟨z 0, by rw [eq_ix2 z]; congr 1; exact Subsingleton.elim (α := Fin 1) _ _⟩
      rw [scalesPt_at i ⟨2 * T.val, by omega⟩ _ (by simp) (by simp), ← left_row hg hu T i]
      exact scalesV_at _ i
  · obtain ⟨T, hT⟩ : ∃ T : Fin 8, T.val = (y 1).val / 2 := ⟨⟨(y 1).val / 2, by omega⟩, rfl⟩
    have hm : T ∈ ([7, 6, 5, 4, 3, 2, 1, 0] : List (Fin 8)) := (by decide : ∀ T : Fin 8, T ∈ ([7, 6, 5, 4, 3, 2, 1, 0] : List (Fin 8))) T
    by_cases hs : (y 1).val % 2 < 1
    · refine ⟨leftScales x gt ut T, List.mem_flatMap.mpr ⟨T, hm, by simp⟩, ?_⟩
      refine (Rect.mem_set_unit (inb := inb_scales0 T)).mpr fun a => ?_
      match a with
      | ⟨0, _⟩ => exact ⟨Nat.zero_le _, by show (y 0).val < 0 + 512; omega⟩
      | ⟨1, _⟩ => exact ⟨by show 2 * T.val ≤ (y 1).val; omega, by show (y 1).val < 2 * T.val + 1; omega⟩
    · refine ⟨rightScales x gt ut T, List.mem_flatMap.mpr ⟨T, hm, by simp⟩, ?_⟩
      refine (Rect.mem_set_unit (inb := inb_scales1 T)).mpr fun a => ?_
      match a with
      | ⟨0, _⟩ => exact ⟨Nat.zero_le _, by show (y 0).val < 0 + 512; omega⟩
      | ⟨1, _⟩ => exact ⟨by show 2 * T.val + 1 ≤ (y 1).val; omega, by show (y 1).val < 2 * T.val + 1 + 1; omega⟩

end Cert.Swiglu
-- ==== Proof.PiecesA.lean ====
/- The pieces that the first point leaves: in its two output blocks the sixteen stores of Point.lean, over the rows it
   dequantised and the weights its loop stored; in the two carried scratches the stores of that loop. -/
module

public import proofs.«01_k».proof.Proof.Point
public import proofs.«01_k».proof.Proof.Gen.KernelIdeal.Frame

@[expose] public section

set_option maxRecDepth 16384

noncomputable section

namespace Cert.Swiglu

open Idealize.ShloMosaic Idealize.ShloMosaic.TcCoe Idealize.SL.Sem
open Cert.KernelIdeal Cert.KernelIdeal.Gen

variable {F : FTy → Type} [FloatOps F]

section CaseA

variable (c : Dev nD) (i : grid0.Coords) (arg1 : Memref sig .tc .vmem S512x3584 .fp8e4m3) (harg1 : arg1.IsWhole) (arg2 : Memref sig .tc .vmem S512x28 .f32) (harg2 : arg2.IsWhole) (arg3 : Memref sig .tc .vmem S3584x2048 .fp8e4m3) (harg3 : arg3.IsWhole) (arg4 : Memref sig .tc .smem S28x16 .f32) (harg4 : arg4.IsWhole) (arg5 : Memref sig .tc .vmem S3584x2048 .fp8e4m3) (harg5 : arg5.IsWhole) (arg6 : Memref sig .tc .smem S28x16 .f32) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S512x3584 .bf16) (harg9 : arg9.IsWhole) (arg10 : Memref sig .tc .vmem S3584x2048 .bf16) (harg10 : arg10.IsWhole) (arg11 : Memref sig .tc .vmem S3584x2048 .bf16) (harg11 : arg11.IsWhole)
  (hc0 : cond0_0 i)
  (x0 : Vec F S512x3584 .fp8e4m3) (x1 : Vec F S512x28 .f32) (x2 : Vec F S3584x2048 .fp8e4m3) (x3 : Vec F S28x16 .f32) (x4 : Vec F S3584x2048 .fp8e4m3) (x5 : Vec F S28x16 .f32)

/-- The stores of codes at the first point. -/
theorem codes_list_A : (kernelRun0_A c i arg1 harg1 arg2 harg2 arg3 harg3 arg4 harg4 arg5 harg5 arg6 harg6 arg7 harg7 arg8 harg8 arg9 harg9 arg10 harg10 arg11 harg11 hc0 x0 x1 x2 x3 x4 x5).1
    = codesPieces (kernelRun0_A.sl.v339 c arg1 harg1 arg2 harg2 arg9 x0 x1)
        (fun T => arg10.view.readCov (pb_k0_t1 Variants.none c none i arg1 harg1 arg2 harg2 arg3 harg3 arg4 harg4 arg5 harg5 arg6 harg6 arg7 harg7 arg8 harg8 arg9 harg9 arg10 harg10 arg11 harg11 hc0 (harg3.unread x2) (harg4.unread x3) (harg5.unread x4) (harg6.unread x5) (Scf.trips k0_t1_loop.lb k0_t1_loop.ub k0_t1_loop.st)).1 (Rect.unit (s := S3584x2048) ![0, 256 * T.val] S3584x256.size (inb_tile T)).toLoadRect)
        (fun T => arg11.view.readCov (pb_k0_t1 Variants.none c none i arg1 harg1 arg2 harg2 arg3 harg3 arg4 harg4 arg5 harg5 arg6 harg6 arg7 harg7 arg8 harg8 arg9 harg9 arg10 harg10 arg11 harg11 hc0 (harg3.unread x2) (harg4.unread x3) (harg5.unread x4) (harg6.unread x5) (Scf.trips k0_t1_loop.lb k0_t1_loop.ub k0_t1_loop.st)).2 (Rect.unit (s := S3584x2048) ![0, 256 * T.val] S3584x256.size (inb_tile T)).toLoadRect) := by
  unfold kernelRun0_A
  rfl

/-- The stores of scales at the first point. -/
theorem scales_list_A : (kernelRun0_A c i arg1 harg1 arg2 harg2 arg3 harg3 arg4 harg4 arg5 harg5 arg6 harg6 arg7 harg7 arg8 harg8 arg9 harg9 arg10 harg10 arg11 harg11 hc0 x0 x1 x2 x3 x4 x5).2.1
    = scalesPieces (kernelRun0_A.sl.v339 c arg1 harg1 arg2 harg2 arg9 x0 x1)
        (fun T => arg10.view.readCov (pb_k0_t1 Variants.none c none i arg1 harg1 arg2 harg2 arg3 harg3 arg4 harg4 arg5 harg5 arg6 harg6 arg7 harg7 arg8 harg8 arg9 harg9 arg10 harg10 arg11 harg11 hc0 (harg3.unread x2) (harg4.unread x3) (harg5.unread x4) (harg6.unread x5) (Scf.trips k0_t1_loop.lb k0_t1_loop.ub k0_t1_loop.st)).1 (Rect.unit (s := S3584x2048) ![0, 256 * T.val] S3584x256.size (inb_tile T)).toLoadRect)
        (fun T => arg11.view.readCov (pb_k0_t1 Variants.none c none i arg1 harg1 arg2 harg2 arg3 harg3 arg4 harg4 arg5 harg5 arg6 harg6 arg7 harg7 arg8 harg8 arg9 harg9 arg10 harg10 arg11 harg11 hc0 (harg3.unread x2) (harg4.unread x3) (harg5.unread x4) (harg6.unread x5) (Scf.trips k0_t1_loop.lb k0_t1_loop.ub k0_t1_loop.st)).2 (Rect.unit (s := S3584x2048) ![0, 256 * T.val] S3584x256.size (inb_tile T)).toLoadRect) := by
  unfold kernelRun0_A
  rfl

/-- The stores of the gate weights at the first point. -/
theorem gate_list_A : (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.1 = (pb_k0_t1 Variants.none c none i arg1 harg1 arg2 harg2 arg3 harg3 arg4 harg4 arg5 harg5 arg6 harg6 arg7 harg7 arg8 harg8 arg9 harg9 arg10 harg10 arg11 harg11 hc0 (harg3.unread x2) (harg4.unread x3) (harg5.unread x4) (harg6.unread x5) (Scf.trips k0_t1_loop.lb k0_t1_loop.ub k0_t1_loop.st)).1 := by
  unfold kernelRun0_A
  rfl

/-- The stores of the up weights at the first point. -/
theorem up_list_A : (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.2.1 = (pb_k0_t1 Variants.none c none i arg1 harg1 arg2 harg2 arg3 harg3 arg4 harg4 arg5 harg5 arg6 harg6 arg7 harg7 arg8 harg8 arg9 harg9 arg10 harg10 arg11 harg11 hc0 (harg3.unread x2) (harg4.unread x3) (harg5.unread x4) (harg6.unread x5) (Scf.trips k0_t1_loop.lb k0_t1_loop.ub k0_t1_loop.st)).2 := by
  unfold kernelRun0_A
  rfl

end CaseA

end Cert.Swiglu
-- ==== Proof.PiecesB.lean ====
/- The pieces that a point after the first leaves in its two output blocks are the sixteen stores of Point.lean, over
   the rows that the point dequantised and the weights that the first point left. -/
module

public import proofs.«01_k».proof.Proof.Point
public import proofs.«01_k».proof.Proof.Gen.KernelIdeal.Frame

@[expose] public section

set_option maxRecDepth 16384

noncomputable section

namespace Cert.Swiglu

open Idealize.ShloMosaic Idealize.ShloMosaic.TcCoe Idealize.SL.Sem
open Cert.KernelIdeal Cert.KernelIdeal.Gen

variable {F : FTy → Type} [FloatOps F]

section CaseB

variable (c : Dev nD) (i : grid0.Coords) (arg1 : Memref sig .tc .vmem S512x3584 .fp8e4m3) (harg1 : arg1.IsWhole) (arg2 : Memref sig .tc .vmem S512x28 .f32) (harg2 : arg2.IsWhole) (arg3 : Memref sig .tc .vmem S3584x2048 .fp8e4m3) (harg3 : arg3.IsWhole) (arg4 : Memref sig .tc .smem S28x16 .f32) (harg4 : arg4.IsWhole) (arg5 : Memref sig .tc .vmem S3584x2048 .fp8e4m3) (harg5 : arg5.IsWhole) (arg6 : Memref sig .tc .smem S28x16 .f32) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S512x3584 .bf16) (harg9 : arg9.IsWhole) (arg10 : Memref sig .tc .vmem S3584x2048 .bf16) (harg10 : arg10.IsWhole) (arg11 : Memref sig .tc .vmem S3584x2048 .bf16) (harg11 : arg11.IsWhole)
  (hc0 : ¬cond0_0 i)
  (x0 : Vec F S512x3584 .fp8e4m3) (x1 : Vec F S512x28 .f32) (x2 : Vec F S3584x2048 .fp8e4m3) (x3 : Vec F S28x16 .f32) (x4 : Vec F S3584x2048 .fp8e4m3) (x5 : Vec F S28x16 .f32) (xs1 : Vec F S3584x2048 .bf16) (xs2 : Vec F S3584x2048 .bf16)

/-- The stores of codes at a point after the first. -/
theorem codes_list_B : (kernelRun0_B c i arg1 harg1 arg2 harg2 arg3 harg3 arg4 harg4 arg5 harg5 arg6 harg6 arg7 harg7 arg8 harg8 arg9 harg9 arg10 harg10 arg11 harg11 hc0 x0 x1 x2 x3 x4 x5 xs1 xs2).1
    = codesPieces (kernelRun0_B.sl.v339 c arg1 harg1 arg2 harg2 arg9 x0 x1)
        (fun T => View.readAt (Elt F) arg10.view (Rect.unit (s := S3584x2048) ![0, 256 * T.val] S3584x256.size (inb_tile T)).toLoadRect (harg10.unread xs1))
        (fun T => View.readAt (Elt F) arg11.view (Rect.unit (s := S3584x2048) ![0, 256 * T.val] S3584x256.size (inb_tile T)).toLoadRect (harg11.unread xs2)) := by
  unfold kernelRun0_B
  rfl

/-- The stores of scales at a point after the first. -/
theorem scales_list_B : (kernelRun0_B c i arg1 harg1 arg2 harg2 arg3 harg3 arg4 harg4 arg5 harg5 arg6 harg6 arg7 harg7 arg8 harg8 arg9 harg9 arg10 harg10 arg11 harg11 hc0 x0 x1 x2 x3 x4 x5 xs1 xs2).2.1
    = scalesPieces (kernelRun0_B.sl.v339 c arg1 harg1 arg2 harg2 arg9 x0 x1)
        (fun T => View.readAt (Elt F) arg10.view (Rect.unit (s := S3584x2048) ![0, 256 * T.val] S3584x256.size (inb_tile T)).toLoadRect (harg10.unread xs1))
        (fun T => View.readAt (Elt F) arg11.view (Rect.unit (s := S3584x2048) ![0, 256 * T.val] S3584x256.size (inb_tile T)).toLoadRect (harg11.unread xs2)) := by
  unfold kernelRun0_B
  rfl

end CaseB

end Cert.Swiglu
-- ==== Proof.Rows.lean ====
/- The dequantised rows of a point: the 28 column blocks that the kernel stores in its first scratch leave each code
   times its block's scale. -/
module

public import proofs.«01_k».proof.Proof.Point
public import proofs.«01_k».proof.Proof.Gen.KernelIdeal.Frame

@[expose] public section

set_option maxRecDepth 16384
set_option synthInstance.maxSize 4096

noncomputable section

namespace Cert.Swiglu

open Idealize.ShloMosaic Idealize.ShloMosaic.TcCoe Idealize.SL.Sem Idealize.ShloMosaic.Pointwise
open Cert.KernelIdeal Cert.KernelIdeal.Gen

/-- Column block `b` lies within the rows. -/
theorem inb_block (b : Fin 28) (a : Fin 2) : (![0, 128 * b.val] : Fin 2 → ℕ) a + S512x128.size a ≤ S512x3584.size a := by
  fin_cases a <;> simp [S512x128, S512x3584] <;> omega

/-- Column `b` lies within the scales of the rows. -/
theorem inb_scale (b : Fin 28) (a : Fin 2) : (![0, b.val] : Fin 2 → ℕ) a + S512x1.size a ≤ S512x28.size a := by
  fin_cases a <;> simp [S512x1, S512x28] <;> omega

section Printed

variable {F : FTy → Type} [FloatOps F]
variable (arg1 : Memref sig .tc .vmem S512x3584 .fp8e4m3) (harg1 : arg1.IsWhole) (arg2 : Memref sig .tc .vmem S512x28 .f32) (harg2 : arg2.IsWhole)
  (arg9 : Memref sig .tc .vmem S512x3584 .bf16) (x0 : Vec F S512x3584 .fp8e4m3) (x1 : Vec F S512x28 .f32)

/-- The store of column block `b`. -/
abbrev rowPiece (b : Fin 28) : View.Piece (Elt F) S512x3584 .bf16 :=
  ⟨Rect.unit (s := S512x3584) ![0, 128 * b.val] S512x128.size (inb_block b),
    k0_pay60 (View.readAt (Elt F) arg2.view (Rect.unit (s := S512x28) ![0, b.val] S512x1.size (inb_scale b)).toLoadRect (harg2.unread x1))
      (View.readAt (Elt F) arg1.view (Rect.unit (s := S512x3584) ![0, 128 * b.val] S512x128.size (inb_block b)).toLoadRect (harg1.unread x0))⟩

/-- The column blocks, last first. -/
abbrev blockList : List (Fin 28) :=
  [27, 26, 25, 24, 23, 22, 21, 20, 19, 18, 17, 16, 15, 14, 13, 12, 11, 10, 9, 8, 7, 6, 5, 4, 3, 2, 1, 0]

theorem mem_blockList : ∀ b : Fin 28, b ∈ blockList := by decide

/-- The stores of the rows at a point after the first. -/
theorem rows_list_B (c : Dev nD) : kernelRun0_B.sl.HS0_28 c arg1 harg1 arg2 harg2 x0 x1 = blockList.map (rowPiece arg1 harg1 arg2 harg2 x0 x1) := rfl

/-- The stores of the rows at the first point. -/
theorem rows_list_A (c : Dev nD) : kernelRun0_A.sl.HS0_28 c arg1 harg1 arg2 harg2 x0 x1 = blockList.map (rowPiece arg1 harg1 arg2 harg2 x0 x1) := rfl

end Printed

/-- The dequantised rows. -/
def rowsPt (x0 : Vec Ideal S512x3584 .fp8e4m3) (x1 : Vec Ideal S512x28 .f32) : Vec Ideal S512x3584 .bf16 := fun y =>
  x0 y * x1 (ix2 ⟨(y 0).val, (y 0).isLt⟩ ⟨(y 1).val / 128, by have : (y 1).val < 3584 := (y 1).isLt; omega⟩)

/-- A column block of products, read at an index. -/
theorem block_at (s : Vec Ideal S512x1 .f32) (v : Vec Ideal S512x128 .fp8e4m3) (i : Fin 512) (l : Fin 128) :
    k0_pay60 (F := Ideal) s v (ix2 i l) = v (ix2 i l) * s (ix2 i (0 : Fin 1)) := by
  pointwise [k0_pay60]

variable (arg1 : Memref sig .tc .vmem S512x3584 .fp8e4m3) (harg1 : arg1.IsWhole) (arg2 : Memref sig .tc .vmem S512x28 .f32) (harg2 : arg2.IsWhole)
  (arg9 : Memref sig .tc .vmem S512x3584 .bf16) (x0 : Vec Ideal S512x3584 .fp8e4m3) (x1 : Vec Ideal S512x28 .f32)

/-- THE ROWS: the 28 stores leave the dequantised rows. -/
theorem canon_rows : View.canon (blockList.map (rowPiece (F := Ideal) arg1 harg1 arg2 harg2 x0 x1)) = rowsPt x0 x1 := by
  funext y
  have y0 : (y 0).val < 512 := (y 0).isLt
  have y1 : (y 1).val < 3584 := (y 1).isLt
  refine View.canon_apply_of_pieces (rowsPt x0 x1) _ ?_ y ?_
  · intro p hp
    obtain ⟨b, -, rfl⟩ := List.mem_map.mp hp
    intro z
    obtain ⟨i, l, rfl⟩ : ∃ (i : Fin 512) (l : Fin 128), z = ix2 i l := ⟨z 0, z 1, eq_ix2 z⟩
    refine (block_at _ _ i l).trans ?_
    simp only [View.readAt_eq_ld, harg1.read_unread, harg2.read_unread, View.ld]
    unfold rowsPt
    have e : ((Rect.unit (s := S512x28) ![0, b.val] ![512, 1] (inb_scale b)).idx (ix2 i (0 : Fin 1)) : S512x28.Idx)
        = ix2 i b := by
      funext a; apply Fin.ext
      match a with
      | ⟨0, _⟩ => show 0 + 1 * i.val = i.val; omega
      | ⟨1, _⟩ => show b.val + 1 * 0 = b.val; omega
    refine congrArg₂ (· * ·) rfl (congrArg x1 (e.trans (congrArg₂ ix2 (Fin.ext ?_) (Fin.ext ?_))))
    · show i.val = 0 + 1 * i.val; omega
    · show b.val = (128 * b.val + 1 * l.val) / 128; omega
  · obtain ⟨b, hb⟩ : ∃ b : Fin 28, b.val = (y 1).val / 128 := ⟨⟨(y 1).val / 128, by omega⟩, rfl⟩
    refine ⟨_, List.mem_map.mpr ⟨b, mem_blockList b, rfl⟩, ?_⟩
    refine (Rect.mem_set_unit (inb := inb_block b)).mpr fun a => ?_
    match a with
    | ⟨0, _⟩ => exact ⟨Nat.zero_le _, by show (y 0).val < 0 + 512; omega⟩
    | ⟨1, _⟩ => exact ⟨by show 128 * b.val ≤ (y 1).val; omega, by show (y 1).val < 128 * b.val + 128; omega⟩

/-- The rows that a point after the first loads back. -/
theorem rows_B (c : Dev nD) : kernelRun0_B.sl.v339 c arg1 harg1 arg2 harg2 arg9 x0 x1 = rowsPt x0 x1 := by
  unfold kernelRun0_B.sl.v339
  rw [View.readCov_eq_canon', rows_list_B, canon_rows]
  exact View.ld_unit_zero (off := ![0, 0]) (by funext a; fin_cases a <;> rfl) inb_S512x3584_S512x3584_0_0 (rowsPt x0 x1)

/-- The rows that the first point loads back. -/
theorem rows_A (c : Dev nD) : kernelRun0_A.sl.v339 c arg1 harg1 arg2 harg2 arg9 x0 x1 = rowsPt x0 x1 := by
  unfold kernelRun0_A.sl.v339
  rw [View.readCov_eq_canon', rows_list_A, canon_rows]
  exact View.ld_unit_zero (off := ![0, 0]) (by funext a; fin_cases a <;> rfl) inb_S512x3584_S512x3584_0_0 (rowsPt x0 x1)

end Cert.Swiglu
-- ==== Proof.Weights.lean ====
/- The dequantised weights: the first point's loop stores 28 rows of sixteen blocks of 128 by 128 in each of the two
   carried scratches; together they leave each code times its block's scale. -/
module

public import proofs.«01_k».proof.Proof.Point
public import proofs.«01_k».proof.Proof.Gen.KernelIdeal.Frame

@[expose] public section

set_option maxRecDepth 16384
set_option synthInstance.maxSize 4096

noncomputable section

namespace Cert.Swiglu

open Idealize.ShloMosaic Idealize.ShloMosaic.TcCoe Idealize.SL.Sem Idealize.ShloMosaic.Pointwise
open Cert.KernelIdeal Cert.KernelIdeal.Gen

/-- The corner of block `q` of trip `k`, as the kernel computes it. -/
def blockOff (k : Fin k0_t1_loop.trips) (q : Fin 16) : Fin 2 → ℕ :=
  ![(Scalar.indexCast (Scalar.muli (Scf.iv 0#32 1#32 k) 128#32)).toNat, 128 * q.val]

/-- The place of that block's scale, as the kernel computes it. -/
def scaleOff (k : Fin k0_t1_loop.trips) (q : Fin 16) : Fin 2 → ℕ :=
  ![(Scalar.indexCast (Scf.iv 0#32 1#32 k)).toNat, q.val]

theorem trip_lt (k : Fin k0_t1_loop.trips) : k.val < 28 := Nat.lt_of_lt_of_le k.isLt k0_t1_abs.2.1

/-- The corner in plain numbers. -/
theorem blockOff_eq (k : Fin k0_t1_loop.trips) (q : Fin 16) : blockOff k q = ![128 * k.val, 128 * q.val] := by
  have key : ∀ d : Fin 28, (Scalar.indexCast (Scalar.muli (Scf.iv 0#32 1#32 d.val) 128#32)).toNat = 128 * d.val := by decide
  exact congrArg (fun n => ![n, 128 * q.val]) (key ⟨k.val, trip_lt k⟩)

/-- The place in plain numbers. -/
theorem scaleOff_eq (k : Fin k0_t1_loop.trips) (q : Fin 16) : scaleOff k q = ![k.val, q.val] := by
  have key : ∀ d : Fin 28, (Scalar.indexCast (Scf.iv 0#32 1#32 d.val)).toNat = d.val := by decide
  exact congrArg (fun n => ![n, q.val]) (key ⟨k.val, trip_lt k⟩)

/-- The block lies within the weights. -/
theorem inb_weight (k : Fin k0_t1_loop.trips) (q : Fin 16) (a : Fin 2) : blockOff k q a + S128x128.size a ≤ S3584x2048.size a := by
  have := trip_lt k
  rw [blockOff_eq]
  fin_cases a <;> simp [S128x128, S3584x2048] <;> omega

/-- The place lies within the scales. -/
theorem inb_wscale (k : Fin k0_t1_loop.trips) (q : Fin 16) (a : Fin 2) : scaleOff k q a + S1x1.size a ≤ S28x16.size a := by
  have := trip_lt k
  rw [scaleOff_eq]
  fin_cases a <;> simp [S1x1, S28x16] <;> omega

section Printed

variable {F : FTy → Type} [FloatOps F]

/-- The store of block `q` of trip `k`, from the codes in `w` and the scales in `s`. -/
abbrev weightPiece (w : Memref sig .tc .vmem S3584x2048 .fp8e4m3) (s : Memref sig .tc .smem S28x16 .f32)
    (X : BufTy.Contents (Elt F) w.view.ty) (Y : BufTy.Contents (Elt F) s.view.ty) (k : Fin k0_t1_loop.trips) (q : Fin 16) :
    View.Piece (Elt F) S3584x2048 .bf16 :=
  ⟨Rect.unit (s := S3584x2048) (blockOff k q) S128x128.size (inb_weight k q),
    k0_pay2 (View.readAt (Elt F) w.view (Rect.unit (s := S3584x2048) (blockOff k q) S128x128.size (inb_weight k q)).toLoadRect X)
      (View.readAt (Elt F) s.view (Rect.unit (s := S28x16) (scaleOff k q) S1x1.size (inb_wscale k q)).toLoadRect Y (Shape.Idx.first Nat.one_pos))⟩

/-- The blocks of a trip, last first. -/
abbrev tripList : List (Fin 16) := [15, 14, 13, 12, 11, 10, 9, 8, 7, 6, 5, 4, 3, 2, 1, 0]

theorem mem_tripList : ∀ q : Fin 16, q ∈ tripList := by decide

/-- The blocks of the trips before `n`, last first. -/
def weightList (P : Fin k0_t1_loop.trips → Fin 16 → View.Piece (Elt F) S3584x2048 .bf16) : ℕ → List (View.Piece (Elt F) S3584x2048 .bf16)
  | 0 => []
  | n + 1 => (if h : n < k0_t1_loop.trips then tripList.map (P ⟨n, h⟩) else []) ++ weightList P n

/-- One more trip puts its blocks in front. -/
theorem weightList_succ (P : Fin k0_t1_loop.trips → Fin 16 → View.Piece (Elt F) S3584x2048 .bf16) (k : Fin k0_t1_loop.trips) :
    weightList P (k.val + 1) = tripList.map (P k) ++ weightList P k.val := by
  rw [weightList, dif_pos k.isLt]

/-- Every store of the list is a block. -/
theorem weightList_blocks (P : Fin k0_t1_loop.trips → Fin 16 → View.Piece (Elt F) S3584x2048 .bf16) (n : ℕ) :
    ∀ p ∈ weightList P n, ∃ k q, p = P k q := by
  induction n with
  | zero => intro p hp; exact absurd hp List.not_mem_nil
  | succ n ih =>
    intro p hp
    rw [weightList, List.mem_append] at hp
    rcases hp with hp | hp
    · split at hp
      · obtain ⟨q, -, rfl⟩ := List.mem_map.mp hp
        exact ⟨_, q, rfl⟩
      · exact absurd hp List.not_mem_nil
    · exact ih p hp

/-- Every block of a trip before `n` is in the list. -/
theorem mem_weightList (P : Fin k0_t1_loop.trips → Fin 16 → View.Piece (Elt F) S3584x2048 .bf16) (n : ℕ) (k : Fin k0_t1_loop.trips) (q : Fin 16)
    (hk : k.val < n) : P k q ∈ weightList P n := by
  induction n with
  | zero => omega
  | succ n ih =>
    rw [weightList, List.mem_append]
    by_cases e : k.val = n
    · subst e
      left
      rw [dif_pos k.isLt]
      exact List.mem_map_of_mem (mem_tripList q)
    · exact Or.inr (ih (by omega))

section Trips

variable (𝒱 : Variants) (c : Dev nD) (bd : Option 𝒱.V) (i : grid0.Coords) (arg1 : Memref sig .tc .vmem S512x3584 .fp8e4m3) (harg1 : arg1.IsWhole) (arg2 : Memref sig .tc .vmem S512x28 .f32) (harg2 : arg2.IsWhole) (arg3 : Memref sig .tc .vmem S3584x2048 .fp8e4m3) (harg3 : arg3.IsWhole) (arg4 : Memref sig .tc .smem S28x16 .f32) (harg4 : arg4.IsWhole) (arg5 : Memref sig .tc .vmem S3584x2048 .fp8e4m3) (harg5 : arg5.IsWhole) (arg6 : Memref sig .tc .smem S28x16 .f32) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S512x3584 .bf16) (harg9 : arg9.IsWhole) (arg10 : Memref sig .tc .vmem S3584x2048 .bf16) (harg10 : arg10.IsWhole) (arg11 : Memref sig .tc .vmem S3584x2048 .bf16) (harg11 : arg11.IsWhole) (k0_h1 : k0_cond1 i = 1#1) (X_arg3 : BufTy.Contents (Elt F) arg3.view.ty) (X_arg4 : BufTy.Contents (Elt F) arg4.view.ty) (X_arg5 : BufTy.Contents (Elt F) arg5.view.ty) (X_arg6 : BufTy.Contents (Elt F) arg6.view.ty)

/-- One trip's stores of the gate weights. -/
theorem trip_gate (k : Fin k0_t1_loop.trips) : (trip_k0_t1 (F := F) 𝒱 c bd i arg1 harg1 arg2 harg2 arg3 harg3 arg4 harg4 arg5 harg5 arg6 harg6 arg7 harg7 arg8 harg8 arg9 harg9 arg10 harg10 arg11 harg11 k0_h1 X_arg3 X_arg4 X_arg5 X_arg6 k).1
    = tripList.map (weightPiece arg3 arg4 X_arg3 X_arg4 k) := by
  unfold trip_k0_t1
  rfl

/-- One trip's stores of the up weights. -/
theorem trip_up (k : Fin k0_t1_loop.trips) : (trip_k0_t1 (F := F) 𝒱 c bd i arg1 harg1 arg2 harg2 arg3 harg3 arg4 harg4 arg5 harg5 arg6 harg6 arg7 harg7 arg8 harg8 arg9 harg9 arg10 harg10 arg11 harg11 k0_h1 X_arg3 X_arg4 X_arg5 X_arg6 k).2.1
    = tripList.map (weightPiece arg5 arg6 X_arg5 X_arg6 k) := by
  unfold trip_k0_t1
  rfl

/-- One more trip, on both arrays. -/
theorem trips_step (k : Fin k0_t1_loop.trips)
    (h : pb_k0_t1 (F := F) 𝒱 c bd i arg1 harg1 arg2 harg2 arg3 harg3 arg4 harg4 arg5 harg5 arg6 harg6 arg7 harg7 arg8 harg8 arg9 harg9 arg10 harg10 arg11 harg11 k0_h1 X_arg3 X_arg4 X_arg5 X_arg6 k.val
      = (weightList (weightPiece arg3 arg4 X_arg3 X_arg4) k.val, weightList (weightPiece arg5 arg6 X_arg5 X_arg6) k.val)) :
    pb_k0_t1 (F := F) 𝒱 c bd i arg1 harg1 arg2 harg2 arg3 harg3 arg4 harg4 arg5 harg5 arg6 harg6 arg7 harg7 arg8 harg8 arg9 harg9 arg10 harg10 arg11 harg11 k0_h1 X_arg3 X_arg4 X_arg5 X_arg6 (k.val + 1)
      = (weightList (weightPiece arg3 arg4 X_arg3 X_arg4) (k.val + 1), weightList (weightPiece arg5 arg6 X_arg5 X_arg6) (k.val + 1)) := by
  rw [weightList_succ, weightList_succ]
  exact (pb_k0_t1_succ 𝒱 c bd i arg1 harg1 arg2 harg2 arg3 harg3 arg4 harg4 arg5 harg5 arg6 harg6 arg7 harg7 arg8 harg8 arg9 harg9 arg10 harg10 arg11 harg11 k0_h1 X_arg3 X_arg4 X_arg5 X_arg6 k).trans (Prod.ext (congrArg₂ (· ++ ·) (trip_gate 𝒱 c bd i arg1 harg1 arg2 harg2 arg3 harg3 arg4 harg4 arg5 harg5 arg6 harg6 arg7 harg7 arg8 harg8 arg9 harg9 arg10 harg10 arg11 harg11 k0_h1 X_arg3 X_arg4 X_arg5 X_arg6 k) (congrArg Prod.fst h))
    (congrArg₂ (· ++ ·) (trip_up 𝒱 c bd i arg1 harg1 arg2 harg2 arg3 harg3 arg4 harg4 arg5 harg5 arg6 harg6 arg7 harg7 arg8 harg8 arg9 harg9 arg10 harg10 arg11 harg11 k0_h1 X_arg3 X_arg4 X_arg5 X_arg6 k) (congrArg Prod.snd h)))

/-- The stores of the first `n` trips. -/
theorem trips_list (n : ℕ) (hn : n ≤ k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 k0_h1 X_arg3 X_arg4 X_arg5 X_arg6 n
      = (weightList (weightPiece arg3 arg4 X_arg3 X_arg4) n, weightList (weightPiece arg5 arg6 X_arg5 X_arg6) n) :=
  Nat.rec (motive := fun n => n ≤ k0_t1_loop.trips → pb_k0_t1 (F := F) 𝒱 c bd i arg1 harg1 arg2 harg2 arg3 harg3 arg4 harg4 arg5 harg5 arg6 harg6 arg7 harg7 arg8 harg8 arg9 harg9 arg10 harg10 arg11 harg11 k0_h1 X_arg3 X_arg4 X_arg5 X_arg6 n
      = (weightList (weightPiece arg3 arg4 X_arg3 X_arg4) n, weightList (weightPiece arg5 arg6 X_arg5 X_arg6) n))
    (fun _ => rfl) (fun n ih hn => trips_step 𝒱 c bd i arg1 harg1 arg2 harg2 arg3 harg3 arg4 harg4 arg5 harg5 arg6 harg6 arg7 harg7 arg8 harg8 arg9 harg9 arg10 harg10 arg11 harg11 k0_h1 X_arg3 X_arg4 X_arg5 X_arg6 ⟨n, hn⟩ (ih (Nat.le_of_lt hn))) n hn

end Trips

end Printed

/-- The dequantised weights. -/
def weightsPt (w : Vec Ideal S3584x2048 .fp8e4m3) (s : Vec Ideal S28x16 .f32) : Vec Ideal S3584x2048 .bf16 := fun y =>
  w y * s (ix2 ⟨(y 0).val / 128, by have : (y 0).val < 3584 := (y 0).isLt; omega⟩ ⟨(y 1).val / 128, by have : (y 1).val < 2048 := (y 1).isLt; omega⟩)

/-- A block of products, read at an index. -/
theorem wblock_at (v : Vec Ideal S128x128 .fp8e4m3) (s : Elt Ideal .f32) (a b : Fin 128) :
    k0_pay2 (F := Ideal) v s (ix2 a b) = v (ix2 a b) * s := by
  pointwise [k0_pay2]

/-- THE WEIGHTS: the stores of all 28 trips leave the dequantised weights. -/
theorem canon_weights (w : Memref sig .tc .vmem S3584x2048 .fp8e4m3) (hw : w.IsWhole) (s : Memref sig .tc .smem S28x16 .f32) (hs : s.IsWhole)
    (x : Vec Ideal S3584x2048 .fp8e4m3) (y : Vec Ideal S28x16 .f32) (n : ℕ) (hn : 28 ≤ n) :
    View.canon (weightList (weightPiece w s (hw.unread x) (hs.unread y)) n) = weightsPt x y := by
  funext j
  have j0 : (j 0).val < 3584 := (j 0).isLt
  have j1 : (j 1).val < 2048 := (j 1).isLt
  have h28 : 28 = k0_t1_loop.trips := by decide
  refine View.canon_apply_of_pieces (weightsPt x y) _ ?_ j ?_
  · intro p hp
    obtain ⟨k, q, rfl⟩ := weightList_blocks _ n p hp
    intro z
    obtain ⟨a, b, rfl⟩ : ∃ (a b : Fin 128), z = ix2 a b := ⟨z 0, z 1, eq_ix2 z⟩
    refine (wblock_at _ _ a b).trans ?_
    simp only [View.readAt_eq_ld, hw.read_unread, hs.read_unread, View.ld]
    unfold weightsPt
    congr 1
    congr 1
    funext c
    apply Fin.ext
    have ha := a.isLt
    have hb := b.isLt
    fin_cases c
    · show scaleOff k q 0 + 1 * 0 = (blockOff k q 0 + 1 * a.val) / 128
      rw [scaleOff_eq, blockOff_eq]
      show k.val + 1 * 0 = (128 * k.val + 1 * a.val) / 128
      omega
    · show scaleOff k q 1 + 1 * 0 = (blockOff k q 1 + 1 * b.val) / 128
      rw [scaleOff_eq, blockOff_eq]
      show q.val + 1 * 0 = (128 * q.val + 1 * b.val) / 128
      omega
  · refine ⟨_, mem_weightList _ n ⟨(j 0).val / 128, by omega⟩ ⟨(j 1).val / 128, by omega⟩ (by show (j 0).val / 128 < n; omega), ?_⟩
    refine (Rect.mem_set_unit (inb := inb_weight _ _)).mpr ?_
    intro a
    rw [blockOff_eq]
    fin_cases a
    · show 128 * ((j 0).val / 128) ≤ (j 0).val ∧ (j 0).val < 128 * ((j 0).val / 128) + 128
      omega
    · show 128 * ((j 1).val / 128) ≤ (j 1).val ∧ (j 1).val < 128 * ((j 1).val / 128) + 128
      omega

end Cert.Swiglu
-- ==== Proof.PointValue.lean ====
/- What one grid point leaves: in its two output blocks the codes and the scales of its rows over the dequantised
   weights, in the carried scratches the dequantised weights. -/
module

public import proofs.«01_k».proof.Proof.PiecesA
public import proofs.«01_k».proof.Proof.PiecesB
public import proofs.«01_k».proof.Proof.Rows
public import proofs.«01_k».proof.Proof.Weights

@[expose] public section

set_option maxRecDepth 16384

noncomputable section

namespace Cert.Swiglu

open Idealize.ShloMosaic Idealize.ShloMosaic.TcCoe Idealize.SL.Sem Idealize.ShloMosaic.Pointwise
open Cert.KernelIdeal Cert.KernelIdeal.Gen

/-- Eight boxes of 256 columns each, loaded from an array, are its tiles. -/
theorem tiles_box (g : Vec Ideal S3584x2048 .bf16) (t : Fin 8 → Vec Ideal S3584x256 .bf16)
    (h : ∀ T, t T = fun j => g ((Rect.unit (s := S3584x2048) ![0, 256 * T.val] S3584x256.size (inb_tile T)).toLoadRect.idx j)) : IsTile g t := by
  intro T k l
  rw [h]
  refine congrArg g (funext fun a => Fin.ext ?_)
  fin_cases a
  · show 0 + 1 * k.val = k.val
    omega
  · show 256 * T.val + 1 * l.val = 256 * T.val + l.val
    omega

/-- Tiles loaded from an array that holds `g`. -/
theorem tiles_held (a : Memref sig .tc .vmem S3584x2048 .bf16) (ha : a.IsWhole) (g : Vec Ideal S3584x2048 .bf16) :
    IsTile g (fun T => View.readAt (Elt Ideal) a.view (Rect.unit (s := S3584x2048) ![0, 256 * T.val] S3584x256.size (inb_tile T)).toLoadRect (ha.unread g)) :=
  tiles_box g _ fun T => by rw [View.readAt_eq_ld, ha.read_unread]

/-- Tiles loaded from an array in which the stores `L` leave `g`. -/
theorem tiles_stored (a : Memref sig .tc .vmem S3584x2048 .bf16) (L : List (View.Piece (Elt Ideal) S3584x2048 .bf16)) (g : Vec Ideal S3584x2048 .bf16)
    (h : View.canon L = g) :
    IsTile g (fun T => a.view.readCov L (Rect.unit (s := S3584x2048) ![0, 256 * T.val] S3584x256.size (inb_tile T)).toLoadRect) :=
  tiles_box g _ fun T => by rw [View.readCov_eq_canon', h]

variable (c : Dev nD) (i : grid0.Coords) (arg1 : Memref sig .tc .vmem S512x3584 .fp8e4m3) (harg1 : arg1.IsWhole) (arg2 : Memref sig .tc .vmem S512x28 .f32) (harg2 : arg2.IsWhole) (arg3 : Memref sig .tc .vmem S3584x2048 .fp8e4m3) (harg3 : arg3.IsWhole) (arg4 : Memref sig .tc .smem S28x16 .f32) (harg4 : arg4.IsWhole) (arg5 : Memref sig .tc .vmem S3584x2048 .fp8e4m3) (harg5 : arg5.IsWhole) (arg6 : Memref sig .tc .smem S28x16 .f32) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S512x3584 .bf16) (harg9 : arg9.IsWhole) (arg10 : Memref sig .tc .vmem S3584x2048 .bf16) (harg10 : arg10.IsWhole) (arg11 : Memref sig .tc .vmem S3584x2048 .bf16) (harg11 : arg11.IsWhole)
  (hA : cond0_0 i) (hB : ¬cond0_0 i)
  (x0 : Vec Ideal S512x3584 .fp8e4m3) (x1 : Vec Ideal S512x28 .f32) (x2 : Vec Ideal S3584x2048 .fp8e4m3) (x3 : Vec Ideal S28x16 .f32) (x4 : Vec Ideal S3584x2048 .fp8e4m3) (x5 : Vec Ideal S28x16 .f32) (xs1 xs2 : Vec Ideal S3584x2048 .bf16)

/-- The gate weights that the first point's loop stores. -/
theorem gate_canon : View.canon (pb_k0_t1 Variants.none c none i arg1 harg1 arg2 harg2 arg3 harg3 arg4 harg4 arg5 harg5 arg6 harg6 arg7 harg7 arg8 harg8 arg9 harg9 arg10 harg10 arg11 harg11 hA (harg3.unread x2) (harg4.unread x3) (harg5.unread x4) (harg6.unread x5) (Scf.trips k0_t1_loop.lb k0_t1_loop.ub k0_t1_loop.st)).1 = weightsPt x2 x3 := by
  rw [trips_list _ _ _ _ _ _ _ _ _ _ _ _ _ _ _ _ _ _ _ _ _ _ _ _ _ _ _ _ _ _ _ _ (by decide)]
  exact canon_weights arg3 harg3 arg4 harg4 x2 x3 _ (by decide)

/-- The up weights that the first point's loop stores. -/
theorem up_canon : View.canon (pb_k0_t1 Variants.none c none i arg1 harg1 arg2 harg2 arg3 harg3 arg4 harg4 arg5 harg5 arg6 harg6 arg7 harg7 arg8 harg8 arg9 harg9 arg10 harg10 arg11 harg11 hA (harg3.unread x2) (harg4.unread x3) (harg5.unread x4) (harg6.unread x5) (Scf.trips k0_t1_loop.lb k0_t1_loop.ub k0_t1_loop.st)).2 = weightsPt x4 x5 := by
  rw [trips_list _ _ _ _ _ _ _ _ _ _ _ _ _ _ _ _ _ _ _ _ _ _ _ _ _ _ _ _ _ _ _ _ (by decide)]
  exact canon_weights arg5 harg5 arg6 harg6 x4 x5 _ (by decide)

/-- The carried gate weights after the first point. -/
theorem gate_A : sout0_A_1 c i arg1 harg1 arg2 harg2 arg3 harg3 arg4 harg4 arg5 harg5 arg6 harg6 arg7 harg7 arg8 harg8 arg9 harg9 arg10 harg10 arg11 harg11 hA x0 x1 x2 x3 x4 x5 = weightsPt x2 x3 := by
  unfold sout0_A_1
  rw [View.read_writes_junk_eq_canon, gate_list_A]
  exact gate_canon c i arg1 harg1 arg2 harg2 arg3 harg3 arg4 harg4 arg5 harg5 arg6 harg6 arg7 harg7 arg8 harg8 arg9 harg9 arg10 harg10 arg11 harg11 hA x2 x3 x4 x5

/-- The carried up weights after the first point. -/
theorem up_A : sout0_A_2 c i arg1 harg1 arg2 harg2 arg3 harg3 arg4 harg4 arg5 harg5 arg6 harg6 arg7 harg7 arg8 harg8 arg9 harg9 arg10 harg10 arg11 harg11 hA x0 x1 x2 x3 x4 x5 = weightsPt x4 x5 := by
  unfold sout0_A_2
  rw [View.read_writes_junk_eq_canon, up_list_A]
  exact up_canon c i arg1 harg1 arg2 harg2 arg3 harg3 arg4 harg4 arg5 harg5 arg6 harg6 arg7 harg7 arg8 harg8 arg9 harg9 arg10 harg10 arg11 harg11 hA x2 x3 x4 x5

/-- The codes of the first point. -/
theorem codes_A : out0_A_6 c i arg1 harg1 arg2 harg2 arg3 harg3 arg4 harg4 arg5 harg5 arg6 harg6 arg7 harg7 arg8 harg8 arg9 harg9 arg10 harg10 arg11 harg11 hA x0 x1 x2 x3 x4 x5 = codesPt (rowsPt x0 x1) (weightsPt x2 x3) (weightsPt x4 x5) := by
  unfold out0_A_6
  rw [View.read_writes_junk_eq_canon, codes_list_A, rows_A arg1 harg1 arg2 harg2 arg9 x0 x1 c]
  exact canon_codes (tiles_stored arg10 _ _ (gate_canon c i arg1 harg1 arg2 harg2 arg3 harg3 arg4 harg4 arg5 harg5 arg6 harg6 arg7 harg7 arg8 harg8 arg9 harg9 arg10 harg10 arg11 harg11 hA x2 x3 x4 x5)) (tiles_stored arg11 _ _ (up_canon c i arg1 harg1 arg2 harg2 arg3 harg3 arg4 harg4 arg5 harg5 arg6 harg6 arg7 harg7 arg8 harg8 arg9 harg9 arg10 harg10 arg11 harg11 hA x2 x3 x4 x5))

/-- The scales of the first point. -/
theorem scales_A : out0_A_7 c i arg1 harg1 arg2 harg2 arg3 harg3 arg4 harg4 arg5 harg5 arg6 harg6 arg7 harg7 arg8 harg8 arg9 harg9 arg10 harg10 arg11 harg11 hA x0 x1 x2 x3 x4 x5 = scalesPt (rowsPt x0 x1) (weightsPt x2 x3) (weightsPt x4 x5) := by
  unfold out0_A_7
  rw [View.read_writes_junk_eq_canon, scales_list_A, rows_A arg1 harg1 arg2 harg2 arg9 x0 x1 c]
  exact canon_scales (tiles_stored arg10 _ _ (gate_canon c i arg1 harg1 arg2 harg2 arg3 harg3 arg4 harg4 arg5 harg5 arg6 harg6 arg7 harg7 arg8 harg8 arg9 harg9 arg10 harg10 arg11 harg11 hA x2 x3 x4 x5)) (tiles_stored arg11 _ _ (up_canon c i arg1 harg1 arg2 harg2 arg3 harg3 arg4 harg4 arg5 harg5 arg6 harg6 arg7 harg7 arg8 harg8 arg9 harg9 arg10 harg10 arg11 harg11 hA x2 x3 x4 x5))

/-- The codes of a later point. -/
theorem codes_B : out0_B_6 c i arg1 harg1 arg2 harg2 arg3 harg3 arg4 harg4 arg5 harg5 arg6 harg6 arg7 harg7 arg8 harg8 arg9 harg9 arg10 harg10 arg11 harg11 hB x0 x1 x2 x3 x4 x5 xs1 xs2 = codesPt (rowsPt x0 x1) xs1 xs2 := by
  unfold out0_B_6
  rw [View.read_writes_junk_eq_canon, codes_list_B, rows_B arg1 harg1 arg2 harg2 arg9 x0 x1 c]
  exact canon_codes (tiles_held arg10 harg10 xs1) (tiles_held arg11 harg11 xs2)

/-- The scales of a later point. -/
theorem scales_B : out0_B_7 c i arg1 harg1 arg2 harg2 arg3 harg3 arg4 harg4 arg5 harg5 arg6 harg6 arg7 harg7 arg8 harg8 arg9 harg9 arg10 harg10 arg11 harg11 hB x0 x1 x2 x3 x4 x5 xs1 xs2 = scalesPt (rowsPt x0 x1) xs1 xs2 := by
  unfold out0_B_7
  rw [View.read_writes_junk_eq_canon, scales_list_B, rows_B arg1 harg1 arg2 harg2 arg9 x0 x1 c]
  exact canon_scales (tiles_held arg10 harg10 xs1) (tiles_held arg11 harg11 xs2)

end Cert.Swiglu
-- ==== Proof.Blocks.lean ====
/- What each grid point reads: 512 rows of the two flattened arrays, and the four weight arrays whole. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Swiglu

open Cert.KernelIdeal Cert.KernelIdeal.Gen Idealize.ShloMosaic Idealize.ShloMosaic.TcCoe Idealize.SL.Sem Idealize.ShloMosaic.Pointwise

variable (m : (ℓ : Loc nD τ sig) → Buf (Elt Ideal) ℓ) (c : Dev nD) (t : Fin cfg0.N)

/-- Where the input blocks of a point are. -/
theorem origin_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The weight blocks are at the origin of their arrays. -/
theorem origin_weights : ∀ t : Fin cfg0.N, ∀ a : Fin 2, win0_2.index t a = 0 ∧ win0_3.index t a = 0
    ∧ win0_4.index t a = 0 ∧ win0_5.index t a = 0 :=
  (by decide +kernel : ∀ t : Fin grid0.N, ∀ a : Fin 2, _)

/-- A point reads 512 rows. -/
theorem block0 (i : Fin 512) (k : Fin 3584) (r : Fin 16384) (hr : r.val = 512 * t.val + i.val) :
    (iblk m c 0 t : Vec Ideal S512x3584 .fp8e4m3) (ix2 i k) = V m c main_v0 (ix2 r k) := by
  obtain ⟨h0, h1, -, -⟩ := origin_in t
  refine congrArg (V m c main_v0) (funext fun a => Fin.ext (match a with
    | ⟨0, _⟩ => ?_
    | ⟨1, _⟩ => ?_))
  · show win0_0.index t (0 : Fin 2) * 512 + 1 * i.val = r.val
    rw [h0, hr]; omega
  · show win0_0.index t (1 : Fin 2) * 3584 + 1 * k.val = k.val
    rw [h1]; omega

/-- A point reads the scales of 512 rows. -/
theorem block1 (i : Fin 512) (k : Fin 28) (r : Fin 16384) (hr : r.val = 512 * t.val + i.val) :
    (iblk m c 1 t : Vec Ideal S512x28 .f32) (ix2 i k) = V m c main_v1 (ix2 r k) := by
  obtain ⟨-, -, h0, h1⟩ := origin_in t
  refine congrArg (V m c main_v1) (funext fun a => Fin.ext (match a with
    | ⟨0, _⟩ => ?_
    | ⟨1, _⟩ => ?_))
  · show win0_1.index t (0 : Fin 2) * 512 + 1 * i.val = r.val
    rw [h0, hr]; omega
  · show win0_1.index t (1 : Fin 2) * 28 + 1 * k.val = k.val
    rw [h1]; omega

/-- The block of gate weights is its array. -/
theorem block2 : iblk m c 2 t = m ((c : Thread nD τ).loc main_arg2) := by
  refine Eq.trans (funext fun y => ?_) (V_main_arg2 m c)
  refine congrArg (V m c main_arg2) (funext fun a => Fin.ext ?_)
  have h := (origin_weights t a).1
  show win0_2.index t a * S3584x2048.size a + 1 * (y a).val = (y a).val
  rw [h]; omega

/-- The block of gate scales is its array. -/
theorem block3 : iblk m c 3 t = m ((c : Thread nD τ).loc main_arg3) := by
  refine Eq.trans (funext fun y => ?_) (V_main_arg3 m c)
  refine congrArg (V m c main_arg3) (funext fun a => Fin.ext ?_)
  have h := (origin_weights t a).2.1
  show win0_3.index t a * S28x16.size a + 1 * (y a).val = (y a).val
  rw [h]; omega

/-- The block of up weights is its array. -/
theorem block4 : iblk m c 4 t = m ((c : Thread nD τ).loc main_arg4) := by
  refine Eq.trans (funext fun y => ?_) (V_main_arg4 m c)
  refine congrArg (V m c main_arg4) (funext fun a => Fin.ext ?_)
  have h := (origin_weights t a).2.2.1
  show win0_4.index t a * S3584x2048.size a + 1 * (y a).val = (y a).val
  rw [h]; omega

/-- The block of up scales is its array. -/
theorem block5 : iblk m c 5 t = m ((c : Thread nD τ).loc main_arg5) := by
  refine Eq.trans (funext fun y => ?_) (V_main_arg5 m c)
  refine congrArg (V m c main_arg5) (funext fun a => Fin.ext ?_)
  have h := (origin_weights t a).2.2.2
  show win0_5.index t a * S28x16.size a + 1 * (y a).val = (y a).val
  rw [h]; omega

/-- The rows that the host flattens. -/
theorem host_rows : V m c main_v0 = shapeCast S16384x3584 (m ((c : Thread nD τ).loc main_arg0)) shapeCasts_S8x2048x3584_S16384x3584 := by
  entry_read
  rfl

/-- The row scales that the host flattens. -/
theorem host_scales : V m c main_v1 = shapeCast S16384x28 (m ((c : Thread nD τ).loc main_arg1)) shapeCasts_S8x2048x28_S16384x28 := by
  entry_read
  rfl

end Cert.Swiglu
-- ==== Proof.Sweep.lean ====
/- What every grid point leaves: the codes and scales of its 512 rows over the dequantised weights, which the first
   point stores and every later point carries. -/
module

public import proofs.«01_k».proof.Proof.PointValue
public import proofs.«01_k».proof.Proof.Blocks
public import proofs.«01_k».proof.Proof.Gen.KernelIdeal.Value

@[expose] public section

set_option maxRecDepth 16384

noncomputable section

namespace Cert.Swiglu

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The dequantised gate weights. -/
def gateW : Vec Ideal S3584x2048 .bf16 := weightsPt (m ((c : Thread nD τ).loc main_arg2)) (m ((c : Thread nD τ).loc main_arg3))

/-- The dequantised up weights. -/
def upW : Vec Ideal S3584x2048 .bf16 := weightsPt (m ((c : Thread nD τ).loc main_arg4)) (m ((c : Thread nD τ).loc main_arg5))

/-- The dequantised rows of a point. -/
def rowsAt (t : Fin cfg0.N) : Vec Ideal S512x3584 .bf16 := rowsPt (iblk m c 0 t) (iblk m c 1 t)

/-- What a point leaves in its two output blocks and in the two carried scratches. -/
def leaves (t : Fin cfg0.N) : Vec Ideal S512x2048 .fp8e4m3 × Vec Ideal S512x16 .f32 × Vec Ideal S3584x2048 .bf16 × Vec Ideal S3584x2048 .bf16 :=
  (codesPt (rowsAt m c t) (gateW m c) (upW m c), scalesPt (rowsAt m c t) (gateW m c) (upW m c), gateW m c, upW m c)

/-- The first point. -/
theorem step_A (t : Fin cfg0.N) (acc) (h0 : t.val % 32 = 0) : stAt0 m c t.val t.isLt acc = leaves m c t := by
  rw [stAt0_A m c t acc h0, codes_A, scales_A, gate_A, up_A, block2, block3, block4, block5]
  rfl

/-- A later point, over carried weights. -/
theorem step_B (t : Fin cfg0.N) (acc) (h0 : ¬t.val % 32 = 0) (hg : acc.2.2.1 = gateW m c) (hu : acc.2.2.2 = upW m c) :
    stAt0 m c t.val t.isLt acc = leaves m c t := by
  rw [stAt0_B m c t acc h0, codes_B, scales_B]
  unfold sout0_B_1 sout0_B_2
  rw [hg, hu]
  rfl

/-- Every point. -/
theorem outs_eq (n : ℕ) (hn : n < cfg0.N) : outsAt0 m c n hn = leaves m c ⟨n, hn⟩ := by
  induction n with
  | zero => exact (outsAt0_zero m c hn).trans (step_A m c ⟨0, hn⟩ _ (Nat.zero_mod _))
  | succ n ih =>
    have hN : n + 1 < 32 := lt_of_lt_of_eq hn N_0
    have e := ih (Nat.lt_of_succ_lt hn)
    refine (outsAt0_succ m c n hn).trans (step_B m c ⟨n + 1, hn⟩ _ (by show ¬(n + 1) % 32 = 0; omega) ?_ ?_)
    · rw [e]; rfl
    · rw [e]; rfl

end Cert.Swiglu
-- ==== Proof.Spec.lean ====
/- The whole problem as functions of its six arrays: the gated product of the dequantised dots, and its quantisation in
   groups of 128 columns. -/
module

public import proofs.«01_k».proof.Proof.Quant
public import proofs.«01_k».proof.KernelIdeal
public import Idealize.ShloMosaic.Lib.Pointwise

@[expose] public section

noncomputable section

namespace Cert.Swiglu

open Idealize.ShloMosaic Idealize.ShloMosaic.Pointwise
open Cert.KernelIdeal

variable (x : Vec Ideal S16384x3584 .fp8e4m3) (s : Vec Ideal S16384x28 .f32) (g : Vec Ideal S3584x2048 .fp8e4m3) (sg : Vec Ideal S28x16 .f32)
  (u : Vec Ideal S3584x2048 .fp8e4m3) (su : Vec Ideal S28x16 .f32)

/-- The dot of a dequantised row and a dequantised column. -/
def dotAt (w : Vec Ideal S3584x2048 .fp8e4m3) (sw : Vec Ideal S28x16 .f32) (t : Fin 16384) (j : Fin 2048) : EReal :=
  ∑ k : Fin 3584, x (ix2 t k) * s (ix2 t ⟨k.val / 128, by omega⟩) * (w (ix2 k j) * sw (ix2 ⟨k.val / 128, by omega⟩ ⟨j.val / 128, by omega⟩))

/-- The gated product at token `t` and column `j`. -/
def hidden (t : Fin 16384) (j : Fin 2048) : EReal := gated (dotAt x s g sg t j) (dotAt x s u su t j)

/-- Group `q` of token `t`. -/
def group (t : Fin 16384) (q : Fin 16) : Fin 128 → EReal := fun l => hidden x s g sg u su t ⟨128 * q.val + l.val, by omega⟩

/-- All codes. -/
def codesAll : Vec Ideal S16384x2048 .fp8e4m3 := fun y =>
  code (group x s g sg u su ⟨(y 0).val, (y 0).isLt⟩ ⟨(y 1).val / 128, by have : (y 1).val < 2048 := (y 1).isLt; omega⟩) ⟨(y 1).val % 128, by omega⟩

/-- All scales. -/
def scalesAll : Vec Ideal S16384x16 .f32 := fun y =>
  scale (group x s g sg u su ⟨(y 0).val, (y 0).isLt⟩ ⟨(y 1).val, (y 1).isLt⟩)

end Cert.Swiglu
-- ==== Proof.Arrays.lean ====
/- The kernel's two result arrays after its run: the functions of Spec.lean at the arrays it was launched with. -/
module

public import proofs.«01_k».proof.Proof.Sweep
public import proofs.«01_k».proof.Proof.Spec

@[expose] public section

set_option maxRecDepth 16384

noncomputable section

namespace Cert.Swiglu

open Cert.KernelIdeal Cert.KernelIdeal.Gen Cert.KernelIdeal.Value Idealize.ShloMosaic Idealize.ShloMosaic.TcCoe Idealize.SL.Sem Idealize.ShloMosaic.Pointwise

variable (m : (ℓ : Loc nD τ sig) → Buf (Elt Ideal) ℓ) (c : Dev nD)

/-- The dot of a point's dequantised row and a column of dequantised weights is the whole problem's. -/
theorem dot_at (t : Fin cfg0.N) (i : Fin 512) (r : Fin 16384) (hr : r.val = 512 * t.val + i.val) (w : Vec Ideal S3584x2048 .fp8e4m3) (sw : Vec Ideal S28x16 .f32) (j : Fin 2048) :
    ∑ k : Fin 3584, rowsAt m c t (ix2 i k) * weightsPt w sw (ix2 k j) = dotAt (V m c main_v0) (V m c main_v1) w sw r j := by
  unfold dotAt
  refine Finset.sum_congr rfl fun k _ => congrArg₂ (· * ·) ?_ rfl
  exact congrArg₂ (· * ·) (block0 m c t i k r hr) (block1 m c t i ⟨k.val / 128, by omega⟩ r hr)

/-- A group of a point's row is the whole problem's. -/
theorem group_at (t : Fin cfg0.N) (i : Fin 512) (r : Fin 16384) (hr : r.val = 512 * t.val + i.val) (q : Fin 16) :
    groupAt (rowsAt m c t) (gateW m c) (upW m c) i q
      = group (V m c main_v0) (V m c main_v1) (m ((c : Thread nD τ).loc main_arg2)) (m ((c : Thread nD τ).loc main_arg3)) (m ((c : Thread nD τ).loc main_arg4)) (m ((c : Thread nD τ).loc main_arg5)) r q := by
  funext l
  exact congrArg₂ gated (dot_at m c t i r hr _ _ _) (dot_at m c t i r hr _ _ _)

/-- The kernel's array of codes after its run. -/
theorem codes_array : G6 m c
    = codesAll (V m c main_v0) (V m c main_v1) (m ((c : Thread nD τ).loc main_arg2)) (m ((c : Thread nD τ).loc main_arg3)) (m ((c : Thread nD τ).loc main_arg4)) (m ((c : Thread nD τ).loc main_arg5)) := by
  funext y
  have h0 : (y 0).val < 16384 := (y 0).isLt
  have h1 : (y 1).val < 2048 := (y 1).isLt
  have hp : pt6Of y = (y 0).val / 512 := by
    show 1 * ((y 0).val / 512 - 0) + 1 * ((y 1).val / 2048 - 0) = _
    omega
  have hn : pt6Of y < cfg0.N := by rw [hp]; exact lt_of_lt_of_eq (by omega) N_0.symm
  unfold G6
  rw [dif_pos hn, ← outsAt0_sweep, outs_eq]
  show code (groupAt (rowsAt m c ⟨pt6Of y, hn⟩) (gateW m c) (upW m c) ⟨(y 0).val % 512, _⟩ ⟨(y 1).val % 2048 / 128, _⟩) ⟨(y 1).val % 2048 % 128, _⟩ = _
  rw [group_at m c ⟨pt6Of y, hn⟩ _ ⟨(y 0).val, h0⟩ (by show (y 0).val = 512 * pt6Of y + (y 0).val % 512; rw [hp]; omega)]
  simp only [Nat.mod_eq_of_lt h1]
  rfl

/-- The kernel's array of scales after its run. -/
theorem scales_array : G7 m c
    = scalesAll (V m c main_v0) (V m c main_v1) (m ((c : Thread nD τ).loc main_arg2)) (m ((c : Thread nD τ).loc main_arg3)) (m ((c : Thread nD τ).loc main_arg4)) (m ((c : Thread nD τ).loc main_arg5)) := by
  funext y
  have h0 : (y 0).val < 16384 := (y 0).isLt
  have h1 : (y 1).val < 16 := (y 1).isLt
  have hp : pt7Of y = (y 0).val / 512 := by
    show 1 * ((y 0).val / 512 - 0) + 1 * ((y 1).val / 16 - 0) = _
    omega
  have hn : pt7Of y < cfg0.N := by rw [hp]; exact lt_of_lt_of_eq (by omega) N_0.symm
  unfold G7
  rw [dif_pos hn, ← outsAt0_sweep, outs_eq]
  show scale (groupAt (rowsAt m c ⟨pt7Of y, hn⟩) (gateW m c) (upW m c) ⟨(y 0).val % 512, _⟩ ⟨(y 1).val % 16, _⟩) = _
  rw [group_at m c ⟨pt7Of y, hn⟩ _ ⟨(y 0).val, h0⟩ (by show (y 0).val = 512 * pt7Of y + (y 0).val % 512; rw [hp]; omega)]
  simp only [Nat.mod_eq_of_lt h1]
  rfl

end Cert.Swiglu
-- ==== Proof.RefRun.lean ====
/- The reference's run, with each result's array named by what its one point writes. -/
module

public import proofs.«01_k».proof.Proof.Gen.ReferenceIdeal.Frame
public import Idealize.ShloMosaic.Lib.Pipeline.Value

@[expose] public section

noncomputable section

namespace Cert.Swiglu.Ref

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S16384x2048.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S16384x16.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v2_1) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 6 cfg0.N
      ∧ r.2.mem ((c : Thread nD τ).loc main_v2_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      kept_main_arg0 m r h c,
      kept_main_arg1 m r h c,
      kept_main_arg2 m r h c,
      kept_main_arg3 m r h c,
      kept_main_arg4 m r h c,
      kept_main_arg5 m r h c⟩)
    (run_main m ρ)

end Cert.Swiglu.Ref
-- ==== Proof.RefValue.lean ====
/- What the reference's body computes from its six arrays: the functions of Spec.lean. -/
module

public import proofs.«01_k».proof.Proof.Spec
public import proofs.«01_k».proof.Proof.Gen.ReferenceIdeal.Frame

@[expose] public section

set_option maxRecDepth 16384
set_option synthInstance.maxSize 4096

noncomputable section

namespace Cert.Swiglu

open Idealize.ShloMosaic Idealize.ShloMosaic.Pointwise
open Cert.ReferenceIdeal Cert.ReferenceIdeal.Gen

variable (x : Vec Ideal S16384x3584 .fp8e4m3) (s : Vec Ideal S16384x28 .f32) (g : Vec Ideal S3584x2048 .fp8e4m3) (sg : Vec Ideal S28x16 .f32)
  (u : Vec Ideal S3584x2048 .fp8e4m3) (su : Vec Ideal S28x16 .f32)

/-- The reference's gated product, by groups. -/
theorem ref_hidden_at (t : Fin 16384) (q : Fin 16) (l : Fin 128) :
    k0_pay4 (F := Ideal) x s g sg u su (ix3 t q l) = group x s g sg u su t q l := by
  unfold group hidden gated dotAt
  pointwise [k0_pay4]
  have e1 : (⟨128 * q.val + l.val, by omega⟩ : Fin 2048) = ⟨q.val * 128 + l.val, by omega⟩ := Fin.ext (by show 128 * q.val + l.val = q.val * 128 + l.val; omega)
  have e2 : (⟨(128 * q.val + l.val) / 128, by omega⟩ : Fin 16) = q := Fin.ext (by show (128 * q.val + l.val) / 128 = q.val; omega)
  simp only [e1, e2]

/-- The reference's exponents. -/
theorem ref_expo_at (v : FVec Ideal S16384x16 .f32) (t : Fin 16384) (q : Fin 16) :
    k0_pay1 (F := Ideal) v k0_pay6 (ix2 t q) = expo (v (ix2 t q)) := by
  unfold expo
  pointwise [k0_pay1, k0_pay6]
  generalize Ideal.liftRound Int.floor (Ideal.div (Ideal.log (v (ix2 t q))) (Ideal.log (Ideal.ofBits FTy.f32 1073741824#32))) + 1 = e
  by_cases h1 : Ideal.ofBits FTy.f32 8388608#32 ≤ v (ix2 t q) <;> by_cases h2 : v (ix2 t q) < Ideal.ofBits FTy.f32 2122317824#32 <;>
    simp [h1, h2, IntOp.andi, Scalar.select]

/-- The reference's ratios, from its gated product. -/
def ratioR (h : FVec Ideal S16384x16x128 .f32) : FVec Ideal S16384x16 .f32 :=
  mulf (multiReduction .maximumf [2] S16384x16 (absf h) 0xFF800000#32 reduces_S16384x16x128_S16384x16 (.inl rfl) rfl)
    (broadcast S16384x16 (Scalar.ofBits .f32 0x3B124925#32))

/-- A maximum along the last of three axes, at any sizes. -/
theorem max_last {n0 n1 n2 : ℕ} (v : FVec Ideal ⟨3, ![n0, n1, n2]⟩ .f32) (h : (⟨3, ![n0, n1, n2]⟩ : Shape).Reduces [2] ⟨2, ![n0, n1]⟩)
    (hφ : FKind.Formats .f32) (hacc : 0xFF800000#32 = FKind.maximumf.neutral .f32 hφ) (a : Fin n0) (b : Fin n1) :
    multiReduction .maximumf [2] ⟨2, ![n0, n1]⟩ v 0xFF800000#32 h hφ hacc (ix2 a b)
      = Finset.fold max (Ideal.ofBits .f32 0xFF800000#32) (fun k => v (ix3 a b k)) Finset.univ :=
  (multiReduction_maximumf_eq_fold v _ h hφ hacc _).trans (h.fold_fiber_r3_a2 _ _ _ _)

/-- The ratio of a group along the last of three axes, at any sizes. -/
theorem ratio_last {n0 n1 : ℕ} (v : FVec Ideal ⟨3, ![n0, n1, 128]⟩ .f32) (h : (⟨3, ![n0, n1, 128]⟩ : Shape).Reduces [2] ⟨2, ![n0, n1]⟩)
    (hφ : FKind.Formats .f32) (hacc : 0xFF800000#32 = FKind.maximumf.neutral .f32 hφ) (a : Fin n0) (b : Fin n1) :
    mulf (multiReduction .maximumf [2] ⟨2, ![n0, n1]⟩ (absf v) 0xFF800000#32 h hφ hacc)
        (broadcast ⟨2, ![n0, n1]⟩ (Scalar.ofBits .f32 0x3B124925#32)) (ix2 a b)
      = ratio (fun l => v (ix3 a b l)) :=
  congrArg (· * Ideal.ofBits .f32 0x3B124925#32) (max_last (absf v) h hφ hacc a b)

/-- The ratio of a group. -/
theorem ratioR_at (h : FVec Ideal S16384x16x128 .f32) (t : Fin 16384) (q : Fin 16) :
    ratioR h (ix2 t q) = ratio (fun l => h (ix3 t q l)) := by
  unfold ratioR
  exact ratio_last h reduces_S16384x16x128_S16384x16 (.inl rfl) rfl t q

/-- The reference's ratio of a group. -/
theorem ref_ratio_at (t : Fin 16384) (q : Fin 16) :
    k0_pay5 (F := Ideal) x s g sg u su (ix2 t q) = ratio (group x s g sg u su t q) := by
  have e : k0_pay5 (F := Ideal) x s g sg u su = ratioR (k0_pay4 (F := Ideal) x s g sg u su) := by
    unfold k0_pay5 ratioR; rfl
  rw [e, ratioR_at]
  exact congrArg ratio (funext fun l => ref_hidden_at x s g sg u su t q l)

/-- The reference's codes, from the gated product and the ratios. -/
theorem ref_codes_at (h : FVec Ideal S16384x16x128 .f32) (v : FVec Ideal S16384x16 .f32) (t : Fin 16384) (j : Fin 2048) :
    k0_pay2 (F := Ideal) h v k0_pay6 (ix2 t j)
      = clip (h (ix3 t ⟨j.val / 128, by omega⟩ ⟨j.val % 128, by omega⟩) * Ideal.exp2 (Ideal.ofBits .f32 0x00000000#32 - expo (v (ix2 t ⟨j.val / 128, by omega⟩)))) := by
  rw [← ref_expo_at]
  generalize hE : k0_pay1 (F := Ideal) v k0_pay6 = E
  unfold clip
  pointwise [k0_pay2]
  rw [hE]
  rfl

/-- The reference's scales, from the ratios. -/
theorem ref_scales_at (v : FVec Ideal S16384x16 .f32) (t : Fin 16384) (q : Fin 16) :
    k0_pay3 (F := Ideal) v k0_pay6 (ix2 t q) = Ideal.exp2 (expo (v (ix2 t q))) := by
  rw [← ref_expo_at]
  pointwise [k0_pay3]
  rfl

/-- The reference's codes. -/
theorem ref_codes : k0_pay2 (F := Ideal) (k0_pay4 x s g sg u su) (k0_pay5 x s g sg u su) k0_pay6 = codesAll x s g sg u su := by
  funext y
  obtain ⟨t, j, rfl⟩ : ∃ (t : Fin 16384) (j : Fin 2048), y = ix2 t j := ⟨y 0, y 1, eq_ix2 y⟩
  rw [ref_codes_at, ref_hidden_at, ref_ratio_at]
  rfl

/-- The reference's scales. -/
theorem ref_scales : k0_pay3 (F := Ideal) (k0_pay5 x s g sg u su) k0_pay6 = scalesAll x s g sg u su := by
  funext y
  obtain ⟨t, q, rfl⟩ : ∃ (t : Fin 16384) (q : Fin 16), y = ix2 t q := ⟨y 0, y 1, eq_ix2 y⟩
  rw [ref_scales_at, ref_ratio_at]
  rfl

/-- What the body leaves in the block of codes. -/
theorem out_codes : out0_6 (F := Ideal) x s g sg u su = codesAll x s g sg u su := by
  have z : (![0, 0] : Fin 2 → ℕ) = fun _ => 0 := by funext a; fin_cases a <;> rfl
  unfold out0_6 k0_pay7 k0_pay8
  rw [View.ld_unit_zero z, View.ld_unit_zero z, View.ld_unit_zero z, View.ld_unit_zero z, View.ld_unit_zero z, View.ld_unit_zero z, ref_codes]
  exact View.canon_unit_zero z _ _

/-- What the body leaves in the block of scales. -/
theorem out_scales : out0_7 (F := Ideal) x s g sg u su = scalesAll x s g sg u su := by
  have z : (![0, 0] : Fin 2 → ℕ) = fun _ => 0 := by funext a; fin_cases a <;> rfl
  unfold out0_7 k0_pay7 k0_pay8
  rw [View.ld_unit_zero z, View.ld_unit_zero z, View.ld_unit_zero z, View.ld_unit_zero z, View.ld_unit_zero z, View.ld_unit_zero z, ref_scales]
  exact View.canon_unit_zero z _ _

end Cert.Swiglu
-- ==== Proof.RefArrays.lean ====
/- The reference's two result arrays after its run: the functions of Spec.lean at the arrays it was launched with. -/
module

public import proofs.«01_k».proof.Proof.RefRun
public import proofs.«01_k».proof.Proof.RefValue
public import Idealize.ShloMosaic.Lib.Pipeline.ValueKit

@[expose] public section

set_option maxRecDepth 16384

noncomputable section

namespace Cert.Swiglu.Ref

open Cert.ReferenceIdeal Cert.ReferenceIdeal.Gen Idealize.ShloMosaic Idealize.ShloMosaic.TcCoe Idealize.SL.Sem

variable (m : (ℓ : Loc nD τ sig) → Buf (Elt Ideal) ℓ) (c : Dev nD) (t : Fin cfg0.N)

/-- The input blocks are at the origin of their arrays. -/
theorem origin_in : ∀ t : Fin cfg0.N, ∀ a : Fin 2, win0_0.index t a = 0 ∧ win0_1.index t a = 0 ∧ win0_2.index t a = 0 ∧ win0_3.index t a = 0
    ∧ win0_4.index t a = 0 ∧ win0_5.index t a = 0 ∧ win0_6.index t a = 0 ∧ win0_7.index t a = 0 :=
  (by decide +kernel : ∀ t : Fin grid0.N, ∀ a : Fin 2, _)

/-- The block of rows is its array. -/
theorem block0 : iblk m c 0 t = V m c main_v0 := by
  funext y
  refine congrArg (V m c main_v0) (funext fun a => Fin.ext ?_)
  have h := (origin_in t a).1
  show win0_0.index t a * S16384x3584.size a + 1 * (y a).val = (y a).val
  rw [h]; omega

/-- The block of row scales is its array. -/
theorem block1 : iblk m c 1 t = V m c main_v1 := by
  funext y
  refine congrArg (V m c main_v1) (funext fun a => Fin.ext ?_)
  have h := (origin_in t a).2.1
  show win0_1.index t a * S16384x28.size a + 1 * (y a).val = (y a).val
  rw [h]; omega

/-- The block of gate weights is its array. -/
theorem block2 : iblk m c 2 t = m ((c : Thread nD τ).loc main_arg2) := by
  refine Eq.trans (funext fun y => ?_) (V_main_arg2 m c)
  refine congrArg (V m c main_arg2) (funext fun a => Fin.ext ?_)
  have h := (origin_in t a).2.2.1
  show win0_2.index t a * S3584x2048.size a + 1 * (y a).val = (y a).val
  rw [h]; omega

/-- The block of gate scales is its array. -/
theorem block3 : iblk m c 3 t = m ((c : Thread nD τ).loc main_arg3) := by
  refine Eq.trans (funext fun y => ?_) (V_main_arg3 m c)
  refine congrArg (V m c main_arg3) (funext fun a => Fin.ext ?_)
  have h := (origin_in t a).2.2.2.1
  show win0_3.index t a * S28x16.size a + 1 * (y a).val = (y a).val
  rw [h]; omega

/-- The block of up weights is its array. -/
theorem block4 : iblk m c 4 t = m ((c : Thread nD τ).loc main_arg4) := by
  refine Eq.trans (funext fun y => ?_) (V_main_arg4 m c)
  refine congrArg (V m c main_arg4) (funext fun a => Fin.ext ?_)
  have h := (origin_in t a).2.2.2.2.1
  show win0_4.index t a * S3584x2048.size a + 1 * (y a).val = (y a).val
  rw [h]; omega

/-- The block of up scales is its array. -/
theorem block5 : iblk m c 5 t = m ((c : Thread nD τ).loc main_arg5) := by
  refine Eq.trans (funext fun y => ?_) (V_main_arg5 m c)
  refine congrArg (V m c main_arg5) (funext fun a => Fin.ext ?_)
  have h := (origin_in t a).2.2.2.2.2.1
  show win0_5.index t a * S28x16.size a + 1 * (y a).val = (y a).val
  rw [h]; omega

/-- The rows that the host flattens. -/
theorem host_rows : V m c main_v0 = shapeCast S16384x3584 (m ((c : Thread nD τ).loc main_arg0)) shapeCasts_S8x2048x3584_S16384x3584 := by
  entry_read
  rfl

/-- The row scales that the host flattens. -/
theorem host_scales : V m c main_v1 = shapeCast S16384x28 (m ((c : Thread nD τ).loc main_arg1)) shapeCasts_S8x2048x28_S16384x28 := by
  entry_read
  rfl

/-- The point writes its block of codes back. -/
theorem codes_flush : ∀ t : Fin cfg0.N, (cfg0.win 6).flush t = true := (by decide +kernel : ∀ t : Fin grid0.N, win0_6.flush t = true)

/-- The point writes its block of scales back. -/
theorem scales_flush : ∀ t : Fin cfg0.N, (cfg0.win 7).flush t = true := (by decide +kernel : ∀ t : Fin grid0.N, win0_7.flush t = true)

/-- The reference's array of codes after its run. -/
theorem codes_array : (dats m 0 c).arrAt 6 cfg0.N
    = codesAll (V m c main_v0) (V m c main_v1) (m ((c : Thread nD τ).loc main_arg2)) (m ((c : Thread nD τ).loc main_arg3)) (m ((c : Thread nD τ).loc main_arg4)) (m ((c : Thread nD τ).loc main_arg5)) := by
  funext y
  have t : Fin cfg0.N := ⟨0, by decide⟩
  have e := congrFun ((blocks6 m c t (codes_flush t)).trans (flushed6 m c t)) y
  rw [block0, block1, block2, block3, block4, block5, out_codes] at e
  have h0 := (origin_in t 0).2.2.2.2.2.2.1
  have h1 := (origin_in t 1).2.2.2.2.2.2.1
  have p : ((cfg0.win 6).blk t).view.emb y = y := funext fun a => Fin.ext (match a with
    | ⟨0, _⟩ => (show win0_6.index t (0 : Fin 2) * 16384 + 1 * (y 0).val = (y 0).val by rw [h0]; omega)
    | ⟨1, _⟩ => (show win0_6.index t (1 : Fin 2) * 2048 + 1 * (y 1).val = (y 1).val by rw [h1]; omega))
  have q : (cfg0.win 6).xinj (grid0.coords t) y = y := funext fun a => Fin.ext (match a with
    | ⟨0, _⟩ => rfl
    | ⟨1, _⟩ => rfl)
  generalize (dats m 0 c).arrAt 6 cfg0.N = A at e ⊢
  generalize codesAll (V m c main_v0) (V m c main_v1) (m ((c : Thread nD τ).loc main_arg2)) (m ((c : Thread nD τ).loc main_arg3)) (m ((c : Thread nD τ).loc main_arg4)) (m ((c : Thread nD τ).loc main_arg5)) = B at e ⊢
  have e' : A (((cfg0.win 6).blk t).view.emb y) = B ((cfg0.win 6).xinj (grid0.coords t) y) := e
  rw [p, q] at e'
  exact e'

/-- The reference's array of scales after its run. -/
theorem scales_array : (dats m 0 c).arrAt 7 cfg0.N
    = scalesAll (V m c main_v0) (V m c main_v1) (m ((c : Thread nD τ).loc main_arg2)) (m ((c : Thread nD τ).loc main_arg3)) (m ((c : Thread nD τ).loc main_arg4)) (m ((c : Thread nD τ).loc main_arg5)) := by
  funext y
  have t : Fin cfg0.N := ⟨0, by decide⟩
  have e := congrFun ((blocks7 m c t (scales_flush t)).trans (flushed7 m c t)) y
  rw [block0, block1, block2, block3, block4, block5, out_scales] at e
  have h0 := (origin_in t 0).2.2.2.2.2.2.2
  have h1 := (origin_in t 1).2.2.2.2.2.2.2
  have p : ((cfg0.win 7).blk t).view.emb y = y := funext fun a => Fin.ext (match a with
    | ⟨0, _⟩ => (show win0_7.index t (0 : Fin 2) * 16384 + 1 * (y 0).val = (y 0).val by rw [h0]; omega)
    | ⟨1, _⟩ => (show win0_7.index t (1 : Fin 2) * 16 + 1 * (y 1).val = (y 1).val by rw [h1]; omega))
  have q : (cfg0.win 7).xinj (grid0.coords t) y = y := funext fun a => Fin.ext (match a with
    | ⟨0, _⟩ => rfl
    | ⟨1, _⟩ => rfl)
  generalize (dats m 0 c).arrAt 7 cfg0.N = A at e ⊢
  generalize scalesAll (V m c main_v0) (V m c main_v1) (m ((c : Thread nD τ).loc main_arg2)) (m ((c : Thread nD τ).loc main_arg3)) (m ((c : Thread nD τ).loc main_arg4)) (m ((c : Thread nD τ).loc main_arg5)) = B at e ⊢
  have e' : A (((cfg0.win 7).blk t).view.emb y) = B ((cfg0.win 7).xinj (grid0.coords t) y) := e
  rw [p, q] at e'
  exact e'

end Cert.Swiglu.Ref
-- ==== Proof.Agree.lean ====
/- The kernel and the reference, run from memories that agree on the arguments, end with the same two arrays. -/
module

public import proofs.«01_k».proof.Proof.Arrays
public import proofs.«01_k».proof.Proof.RefArrays

@[expose] public section

set_option maxRecDepth 16384

noncomputable section

namespace Cert.Swiglu

open Idealize.ShloMosaic Idealize.ShloMosaic.TcCoe Idealize.SL.Sem
open Cert.KernelIdeal

variable (m : (ℓ : Loc nD τ sig) → Buf (Elt Ideal) ℓ) (c : Dev nD)

/-- The codes of the six arguments. -/
def codesOf : Vec Ideal S16384x2048 .fp8e4m3 :=
  codesAll (shapeCast S16384x3584 (m ((c : Thread nD τ).loc main_arg0)) Gen.shapeCasts_S8x2048x3584_S16384x3584) (shapeCast S16384x28 (m ((c : Thread nD τ).loc main_arg1)) Gen.shapeCasts_S8x2048x28_S16384x28)
    (m ((c : Thread nD τ).loc main_arg2)) (m ((c : Thread nD τ).loc main_arg3)) (m ((c : Thread nD τ).loc main_arg4)) (m ((c : Thread nD τ).loc main_arg5))

/-- The scales of the six arguments. -/
def scalesOf : Vec Ideal S16384x16 .f32 :=
  scalesAll (shapeCast S16384x3584 (m ((c : Thread nD τ).loc main_arg0)) Gen.shapeCasts_S8x2048x3584_S16384x3584) (shapeCast S16384x28 (m ((c : Thread nD τ).loc main_arg1)) Gen.shapeCasts_S8x2048x28_S16384x28)
    (m ((c : Thread nD τ).loc main_arg2)) (m ((c : Thread nD τ).loc main_arg3)) (m ((c : Thread nD τ).loc main_arg4)) (m ((c : Thread nD τ).loc main_arg5))

/-- The kernel ends with them. -/
theorem kernel_ends : Value.G6 m c = codesOf m c ∧ Value.G7 m c = scalesOf m c := by
  rw [codes_array, scales_array, host_rows, host_scales]
  exact ⟨rfl, rfl⟩

variable (m' : (ℓ : Loc Cert.ReferenceIdeal.nD Cert.ReferenceIdeal.τ Cert.ReferenceIdeal.sig) → Buf (Elt Ideal) ℓ)

/-- The reference ends with them. -/
theorem reference_ends (c : Dev Cert.ReferenceIdeal.nD)
    (h0 : m' ((c : Thread Cert.ReferenceIdeal.nD Cert.ReferenceIdeal.τ).loc Cert.ReferenceIdeal.main_arg0) = m ((c : Thread nD τ).loc main_arg0))
    (h1 : m' ((c : Thread Cert.ReferenceIdeal.nD Cert.ReferenceIdeal.τ).loc Cert.ReferenceIdeal.main_arg1) = m ((c : Thread nD τ).loc main_arg1))
    (h2 : m' ((c : Thread Cert.ReferenceIdeal.nD Cert.ReferenceIdeal.τ).loc Cert.ReferenceIdeal.main_arg2) = m ((c : Thread nD τ).loc main_arg2))
    (h3 : m' ((c : Thread Cert.ReferenceIdeal.nD Cert.ReferenceIdeal.τ).loc Cert.ReferenceIdeal.main_arg3) = m ((c : Thread nD τ).loc main_arg3))
    (h4 : m' ((c : Thread Cert.ReferenceIdeal.nD Cert.ReferenceIdeal.τ).loc Cert.ReferenceIdeal.main_arg4) = m ((c : Thread nD τ).loc main_arg4))
    (h5 : m' ((c : Thread Cert.ReferenceIdeal.nD Cert.ReferenceIdeal.τ).loc Cert.ReferenceIdeal.main_arg5) = m ((c : Thread nD τ).loc main_arg5)) :
    (Cert.ReferenceIdeal.Gen.dats m' 0 c).arrAt 6 Cert.ReferenceIdeal.cfg0.N = codesOf m c
      ∧ (Cert.ReferenceIdeal.Gen.dats m' 0 c).arrAt 7 Cert.ReferenceIdeal.cfg0.N = scalesOf m c := by
  rw [Ref.codes_array, Ref.scales_array, Ref.host_rows, Ref.host_scales, h0, h1, h2, h3, h4, h5]
  exact ⟨rfl, rfl⟩

end Cert.Swiglu
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel's program runs, keeps its arguments and ends quiescent. -/
theorem frame_kernel : quiescent_Kernel (hKernel := Cert.Kernel.Gen.facts) := fun m ρ _ => Cert.Kernel.Gen.frame m ρ

/-- The idealized kernel runs, keeps its arguments and ends quiescent. -/
theorem frame_ideal : quiescent_KernelIdeal (hKernelIdeal := Cert.KernelIdeal.Gen.facts) := fun m ρ _ => Cert.KernelIdeal.Gen.frame m ρ

/-- The reference runs, keeps its arguments and ends quiescent. -/
theorem frame_reference : quiescent_ReferenceIdeal (hReferenceIdeal := Cert.ReferenceIdeal.Gen.facts) := fun m ρ _ => Cert.ReferenceIdeal.Gen.frame m ρ

/-- The idealized kernel and the reference end with equal codes and equal scales. -/
theorem equal_results : algebraic_KernelIdeal_ReferenceIdeal (hKernelIdeal := Cert.KernelIdeal.Gen.facts) (hReferenceIdeal := Cert.ReferenceIdeal.Gen.facts) := by
  intro m g m' g' _ h
  refine ⟨Cert.Swiglu.codesOf m, Cert.Swiglu.scalesOf m, ?_, ?_⟩
  · refine (θ_run _ _ _).mono (fun r p c => ?_) (Cert.KernelIdeal.Value.run m g)
    obtain ⟨p6, p7, pk⟩ := p c
    obtain ⟨e6, e7⟩ := Cert.Swiglu.kernel_ends m c
    exact ⟨p6.trans e6, p7.trans e7, pk⟩
  · refine (θ_run _ _ _).mono (fun r p c => ?_) (Cert.Swiglu.Ref.run_blocks m' g')
    obtain ⟨p6, p7, pk⟩ := p c
    obtain ⟨h0, h1, h2, h3, h4, h5⟩ := h c
    obtain ⟨e6, e7⟩ := Cert.Swiglu.reference_ends m m' c h0 h1 h2 h3 h4 h5
    exact ⟨p6.trans e6, p7.trans e7, pk⟩

/-- All claims. -/
theorem claim : Cert.Claim :=
  ⟨Cert.Kernel.Gen.facts, Cert.KernelIdeal.Gen.facts, Cert.ReferenceIdeal.Gen.facts, frame_kernel, frame_ideal, frame_reference, trivial, equal_results⟩

end Cert.Proof

end
